-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2048x2048 : Shape := ⟨2, ![2048, 2048]⟩
abbrev S2x256x1024 : Shape := ⟨3, ![2, 256, 1024]⟩
abbrev S7x256x1024 : Shape := ⟨3, ![7, 256, 1024]⟩
abbrev S2x64x1024 : Shape := ⟨3, ![2, 64, 1024]⟩
abbrev S3x64x1024 : Shape := ⟨3, ![3, 64, 1024]⟩
abbrev S256x1024 : Shape := ⟨2, ![256, 1024]⟩
abbrev S64x1024 : Shape := ⟨2, ![64, 1024]⟩
abbrev S7 : Shape := ⟨1, ![7]⟩
abbrev S3 : Shape := ⟨1, ![3]⟩
abbrev S_ : Shape := ⟨0, ![]⟩
abbrev S256x64 : Shape := ⟨2, ![256, 64]⟩
abbrev S1x256x1024 : Shape := ⟨3, ![1, 256, 1024]⟩
abbrev S1 : Shape := ⟨1, ![1]⟩
abbrev S1x64x1024 : Shape := ⟨3, ![1, 64, 1024]⟩

abbrev nBuf : Space → Nat
  | .hbm => 3
  | .vmem => 22
  | .smem => 0
  | _ => 0

abbrev bufTy : (tb : Table) → Fin (tcTables nBuf tb) → BufTy
  | .hbm, ⟨0, _⟩ => ⟨S2048x64, .bf16⟩
  | .hbm, ⟨1, _⟩ => ⟨S64x2048, .bf16⟩
  | .hbm, ⟨2, _⟩ => ⟨S2048x2048, .f32⟩
  | .local _ .vmem, ⟨0, _⟩ => ⟨S2048x64, .bf16⟩
  | .local _ .vmem, ⟨1, _⟩ => ⟨S64x2048, .bf16⟩
  | .local _ .vmem, ⟨2, _⟩ => ⟨S2048x2048, .f32⟩
  | .local _ .vmem, ⟨3, _⟩ => ⟨S2x256x1024, .bf16⟩
  | .local _ .vmem, ⟨4, _⟩ => ⟨S2x256x1024, .bf16⟩
  | .local _ .vmem, ⟨5, _⟩ => ⟨S7x256x1024, .bf16⟩
  | .local _ .vmem, ⟨6, _⟩ => ⟨S7x256x1024, .bf16⟩
  | .local _ .vmem, ⟨7, _⟩ => ⟨S2x64x1024, .bf16⟩
  | .local _ .vmem, ⟨8, _⟩ => ⟨S2x64x1024, .bf16⟩
  | .local _ .vmem, ⟨9, _⟩ => ⟨S3x64x1024, .bf16⟩
  | .local _ .vmem, ⟨10, _⟩ => ⟨S3x64x1024, .bf16⟩
  | .local _ .vmem, ⟨11, _⟩ => ⟨S256x1024, .f32⟩
  | .local _ .vmem, ⟨12, _⟩ => ⟨S256x1024, .f32⟩
  | .local _ .vmem, ⟨13, _⟩ => ⟨S64x2048, .bf16⟩
  | .local _ .vmem, ⟨14, _⟩ => ⟨S64x1024, .bf16⟩
  | .local _ .vmem, ⟨15, _⟩ => ⟨S64x1024, .bf16⟩
  | .local _ .vmem, ⟨16, _⟩ => ⟨S3x64x1024, .bf16⟩
  | .local _ .vmem, ⟨17, _⟩ => ⟨S3x64x1024, .bf16⟩
  | .local _ .vmem, ⟨18, _⟩ => ⟨S256x1024, .bf16⟩
  | .local _ .vmem, ⟨19, _⟩ => ⟨S256x1024, .bf16⟩
  | .local _ .vmem, ⟨20, _⟩ => ⟨S7x256x1024, .bf16⟩
  | .local _ .vmem, ⟨21, _⟩ => ⟨S7x256x1024, .bf16⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_63 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_62 : BitVec 32 := 1#32
  let v127 : BitVec 32 := Scalar.muli v75 c1_i32_62
  let v128 : BitVec 32 := Scalar.addi c0_i32_63 v127
  v128.toNat
def k0_dev2 (d0 : Dev nD) : Nat :=
  let c0_i32_66 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_65 : BitVec 32 := 1#32
  let v129 : BitVec 32 := Scalar.muli v105 c1_i32_65
  let v130 : BitVec 32 := Scalar.addi c0_i32_66 v129
  v130.toNat
def k0_dev3 (d0 : Dev nD) : Nat :=
  let c0_i32_69 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v106 : BitVec 32 := Scalar.addi v19 c1_i32_48
  let c4_i32_49 : BitVec 32 := 4#32
  let v107 : BitVec 32 := Scalar.remsi v106 c4_i32_49
  let v108 : BitVec 32 := Scalar.muli c8_i32_50 v107
  let c2_i32_51 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v109 : BitVec 32 := Scalar.muli c2_i32_51 v37
  let v110 : BitVec 32 := Scalar.addi v108 v109
  let c2_i32_52 : BitVec 32 := 2#32
  let v111 : BitVec 32 := Scalar.remsi v37 c2_i32_52
  let c0_i32_53 : BitVec 32 := 0#32
  let v112 : BitVec 1 := Scalar.cmpi .eq v111 c0_i32_53
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_54 : BitVec 32 := 1#32
  let v113 : BitVec 32 := Scalar.subi c1_i32_54 v42
  let v114 : BitVec 32 := Scalar.select v112 v42 v113
  let v115 : BitVec 32 := Scalar.addi v110 v114
  let c1_i32_68 : BitVec 32 := 1#32
  let v131 : BitVec 32 := Scalar.muli v115 c1_i32_68
  let v132 : BitVec 32 := Scalar.addi c0_i32_69 v131
  v132.toNat
def k0_dev4 (d0 : Dev nD) : Nat :=
  let c0_i32_72 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v116 : BitVec 32 := Scalar.addi v19 c3_i32
  let c4_i32_55 : BitVec 32 := 4#32
  let v117 : BitVec 32 := Scalar.remsi v116 c4_i32_55
  let v118 : BitVec 32 := Scalar.muli c8_i32_56 v117
  let c2_i32_57 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v119 : BitVec 32 := Scalar.muli c2_i32_57 v37
  let v120 : BitVec 32 := Scalar.addi v118 v119
  let c2_i32_58 : BitVec 32 := 2#32
  let v121 : BitVec 32 := Scalar.remsi v37 c2_i32_58
  let c0_i32_59 : BitVec 32 := 0#32
  let v122 : BitVec 1 := Scalar.cmpi .eq v121 c0_i32_59
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_60 : BitVec 32 := 1#32
  let v123 : BitVec 32 := Scalar.subi c1_i32_60 v42
  let v124 : BitVec 32 := Scalar.select v122 v42 v123
  let v125 : BitVec 32 := Scalar.addi v120 v124
  let c1_i32_71 : BitVec 32 := 1#32
  let v133 : BitVec 32 := Scalar.muli v125 c1_i32_71
  let v134 : BitVec 32 := Scalar.addi c0_i32_72 v133
  v134.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c8_i32_76 : BitVec 32 := 8#32
  let v139 : BitVec 32 := Scalar.addi v45 c8_i32_76
  let c1_i32_77 : BitVec 32 := 1#32
  let v140 : BitVec 32 := Scalar.subi v139 c1_i32_77
  let c8_i32_78 : BitVec 32 := 8#32
  let v141 : BitVec 32 := Scalar.remsi v140 c8_i32_78
  let c256_i32 : BitVec 32 := 256#32
  let v142 : BitVec 32 := Scalar.muli v141 c256_i32
  let v143 : Index := Scalar.indexCast v142
  let c0_79 : Index := 0#32
  ![v143.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_83 : BitVec 32 := 1#32
  let v151 : BitVec 32 := Scalar.addi v45 c1_i32_83
  let c8_i32_84 : BitVec 32 := 8#32
  let v152 : BitVec 32 := Scalar.remsi v151 c8_i32_84
  let c256_i32_85 : BitVec 32 := 256#32
  let v153 : BitVec 32 := Scalar.muli v152 c256_i32_85
  let v154 : Index := Scalar.indexCast v153
  let c0_86 : Index := 0#32
  ![v154.toNat, 0]
def k0_dev5 (d0 : Dev nD) : Nat :=
  let c0_i32_96 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_95 : BitVec 32 := 1#32
  let v162 : BitVec 32 := Scalar.muli v75 c1_i32_95
  let v163 : BitVec 32 := Scalar.addi c0_i32_96 v162
  v163.toNat
def k0_dev6 (d0 : Dev nD) : Nat :=
  let c0_i32_106 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_105 : BitVec 32 := 1#32
  let v172 : BitVec 32 := Scalar.muli v105 c1_i32_105
  let v173 : BitVec 32 := Scalar.addi c0_i32_106 v172
  v173.toNat
def k0_off3 (d0 : Dev nD) (c0_i32_112 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c16_i32 : BitVec 32 := 16#32
  let v182 : BitVec 32 := Scalar.addi v45 c16_i32
  let c2_i32_111 : BitVec 32 := 2#32
  let v183 : BitVec 32 := Scalar.subi v182 c2_i32_111
  let v184 : BitVec 32 := Scalar.subi v183 c0_i32_112
  let c8_i32_113 : BitVec 32 := 8#32
  let v185 : BitVec 32 := Scalar.remsi v184 c8_i32_113
  let c256_i32_114 : BitVec 32 := 256#32
  let v186 : BitVec 32 := Scalar.muli v185 c256_i32_114
  let v187 : Index := Scalar.indexCast v186
  let c0_115 : Index := 0#32
  ![v187.toNat, 0]
def k0_off4 (d0 : Dev nD) (c0_i32_118 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c2_i32_117 : BitVec 32 := 2#32
  let v191 : BitVec 32 := Scalar.addi v45 c2_i32_117
  let v192 : BitVec 32 := Scalar.addi v191 c0_i32_118
  let c8_i32_119 : BitVec 32 := 8#32
  let v193 : BitVec 32 := Scalar.remsi v192 c8_i32_119
  let c256_i32_120 : BitVec 32 := 256#32
  let v194 : BitVec 32 := Scalar.muli v193 c256_i32_120
  let v195 : Index := Scalar.indexCast v194
  let c0_121 : Index := 0#32
  ![v195.toNat, 0]
def k0_dev7 (d0 : Dev nD) : Nat :=
  let c0_i32_177 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_176 : BitVec 32 := 1#32
  let v243 : BitVec 32 := Scalar.muli v75 c1_i32_176
  let v244 : BitVec 32 := Scalar.addi c0_i32_177 v243
  v244.toNat
def k0_dev8 (d0 : Dev nD) : Nat :=
  let c0_i32_187 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_186 : BitVec 32 := 1#32
  let v253 : BitVec 32 := Scalar.muli v105 c1_i32_186
  let v254 : BitVec 32 := Scalar.addi c0_i32_187 v253
  v254.toNat
def k0_dev9 (d0 : Dev nD) : Nat :=
  let c0_i32_260 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_259 : BitVec 32 := 1#32
  let v324 : BitVec 32 := Scalar.muli v75 c1_i32_259
  let v325 : BitVec 32 := Scalar.addi c0_i32_260 v324
  v325.toNat
def k0_dev10 (d0 : Dev nD) : Nat :=
  let c0_i32_270 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_269 : BitVec 32 := 1#32
  let v334 : BitVec 32 := Scalar.muli v105 c1_i32_269
  let v335 : BitVec 32 := Scalar.addi c0_i32_270 v334
  v335.toNat
def k0_dev11 (d0 : Dev nD) : Nat :=
  let c0_i32_342 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_341 : BitVec 32 := 1#32
  let v405 : BitVec 32 := Scalar.muli v75 c1_i32_341
  let v406 : BitVec 32 := Scalar.addi c0_i32_342 v405
  v406.toNat
def k0_dev12 (d0 : Dev nD) : Nat :=
  let c0_i32_352 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_351 : BitVec 32 := 1#32
  let v415 : BitVec 32 := Scalar.muli v105 c1_i32_351
  let v416 : BitVec 32 := Scalar.addi c0_i32_352 v415
  v416.toNat
def k0_dev13 (d0 : Dev nD) : Nat :=
  let c0_i32_424 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_423 : BitVec 32 := 1#32
  let v486 : BitVec 32 := Scalar.muli v75 c1_i32_423
  let v487 : BitVec 32 := Scalar.addi c0_i32_424 v486
  v487.toNat
def k0_dev14 (d0 : Dev nD) : Nat :=
  let c0_i32_434 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_433 : BitVec 32 := 1#32
  let v496 : BitVec 32 := Scalar.muli v105 c1_i32_433
  let v497 : BitVec 32 := Scalar.addi c0_i32_434 v496
  v497.toNat
def k0_dev15 (d0 : Dev nD) : Nat :=
  let c0_i32_505 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_504 : BitVec 32 := 1#32
  let v567 : BitVec 32 := Scalar.muli v75 c1_i32_504
  let v568 : BitVec 32 := Scalar.addi c0_i32_505 v567
  v568.toNat
def k0_dev16 (d0 : Dev nD) : Nat :=
  let c0_i32_515 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_514 : BitVec 32 := 1#32
  let v577 : BitVec 32 := Scalar.muli v105 c1_i32_514
  let v578 : BitVec 32 := Scalar.addi c0_i32_515 v577
  v578.toNat
def k0_dev17 (d0 : Dev nD) : Nat :=
  let c0_i32_586 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_585 : BitVec 32 := 1#32
  let v648 : BitVec 32 := Scalar.muli v75 c1_i32_585
  let v649 : BitVec 32 := Scalar.addi c0_i32_586 v648
  v649.toNat
def k0_dev18 (d0 : Dev nD) : Nat :=
  let c0_i32_596 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_595 : BitVec 32 := 1#32
  let v658 : BitVec 32 := Scalar.muli v105 c1_i32_595
  let v659 : BitVec 32 := Scalar.addi c0_i32_596 v658
  v659.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_661 : BitVec 32 := 4#32
  let v727 : BitVec 32 := Scalar.addi v19 c4_i32_661
  let c1_i32_662 : BitVec 32 := 1#32
  let v728 : BitVec 32 := Scalar.subi v727 c1_i32_662
  let c4_i32_663 : BitVec 32 := 4#32
  let v729 : BitVec 32 := Scalar.remsi v728 c4_i32_663
  let c64_i32 : BitVec 32 := 64#32
  let v730 : BitVec 32 := Scalar.muli v729 c64_i32
  let v731 : Index := Scalar.indexCast v730
  let c0_664 : Index := 0#32
  ![v731.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_668 : BitVec 32 := 1#32
  let v737 : BitVec 32 := Scalar.addi v19 c1_i32_668
  let c4_i32_669 : BitVec 32 := 4#32
  let v738 : BitVec 32 := Scalar.remsi v737 c4_i32_669
  let c64_i32_670 : BitVec 32 := 64#32
  let v739 : BitVec 32 := Scalar.muli v738 c64_i32_670
  let v740 : Index := Scalar.indexCast v739
  let c0_671 : Index := 0#32
  ![v740.toNat, 0]
def k0_dev19 (d0 : Dev nD) : Nat :=
  let c0_i32_680 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v106 : BitVec 32 := Scalar.addi v19 c1_i32_48
  let c4_i32_49 : BitVec 32 := 4#32
  let v107 : BitVec 32 := Scalar.remsi v106 c4_i32_49
  let v108 : BitVec 32 := Scalar.muli c8_i32_50 v107
  let c2_i32_51 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v109 : BitVec 32 := Scalar.muli c2_i32_51 v37
  let v110 : BitVec 32 := Scalar.addi v108 v109
  let c2_i32_52 : BitVec 32 := 2#32
  let v111 : BitVec 32 := Scalar.remsi v37 c2_i32_52
  let c0_i32_53 : BitVec 32 := 0#32
  let v112 : BitVec 1 := Scalar.cmpi .eq v111 c0_i32_53
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_54 : BitVec 32 := 1#32
  let v113 : BitVec 32 := Scalar.subi c1_i32_54 v42
  let v114 : BitVec 32 := Scalar.select v112 v42 v113
  let v115 : BitVec 32 := Scalar.addi v110 v114
  let c1_i32_679 : BitVec 32 := 1#32
  let v746 : BitVec 32 := Scalar.muli v115 c1_i32_679
  let v747 : BitVec 32 := Scalar.addi c0_i32_680 v746
  v747.toNat
def k0_dev20 (d0 : Dev nD) : Nat :=
  let c0_i32_690 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v116 : BitVec 32 := Scalar.addi v19 c3_i32
  let c4_i32_55 : BitVec 32 := 4#32
  let v117 : BitVec 32 := Scalar.remsi v116 c4_i32_55
  let v118 : BitVec 32 := Scalar.muli c8_i32_56 v117
  let c2_i32_57 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v119 : BitVec 32 := Scalar.muli c2_i32_57 v37
  let v120 : BitVec 32 := Scalar.addi v118 v119
  let c2_i32_58 : BitVec 32 := 2#32
  let v121 : BitVec 32 := Scalar.remsi v37 c2_i32_58
  let c0_i32_59 : BitVec 32 := 0#32
  let v122 : BitVec 1 := Scalar.cmpi .eq v121 c0_i32_59
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_60 : BitVec 32 := 1#32
  let v123 : BitVec 32 := Scalar.subi c1_i32_60 v42
  let v124 : BitVec 32 := Scalar.select v122 v42 v123
  let v125 : BitVec 32 := Scalar.addi v120 v124
  let c1_i32_689 : BitVec 32 := 1#32
  let v756 : BitVec 32 := Scalar.muli v125 c1_i32_689
  let v757 : BitVec 32 := Scalar.addi c0_i32_690 v756
  v757.toNat
def k0_off7 (d0 : Dev nD) (c0_i32_697 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_695 : BitVec 32 := 8#32
  let v766 : BitVec 32 := Scalar.addi v19 c8_i32_695
  let c2_i32_696 : BitVec 32 := 2#32
  let v767 : BitVec 32 := Scalar.subi v766 c2_i32_696
  let v768 : BitVec 32 := Scalar.subi v767 c0_i32_697
  let c4_i32_698 : BitVec 32 := 4#32
  let v769 : BitVec 32 := Scalar.remsi v768 c4_i32_698
  let c64_i32_699 : BitVec 32 := 64#32
  let v770 : BitVec 32 := Scalar.muli v769 c64_i32_699
  let v771 : Index := Scalar.indexCast v770
  let c0_700 : Index := 0#32
  ![v771.toNat, 0]
def k0_off8 (d0 : Dev nD) (c0_i32_702 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_701 : BitVec 32 := 2#32
  let v773 : BitVec 32 := Scalar.addi v19 c2_i32_701
  let v774 : BitVec 32 := Scalar.addi v773 c0_i32_702
  let c4_i32_703 : BitVec 32 := 4#32
  let v775 : BitVec 32 := Scalar.remsi v774 c4_i32_703
  let c64_i32_704 : BitVec 32 := 64#32
  let v776 : BitVec 32 := Scalar.muli v775 c64_i32_704
  let v777 : Index := Scalar.indexCast v776
  let c0_705 : Index := 0#32
  ![v777.toNat, 0]
def k0_dev21 (d0 : Dev nD) : Nat :=
  let c0_i32_761 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v106 : BitVec 32 := Scalar.addi v19 c1_i32_48
  let c4_i32_49 : BitVec 32 := 4#32
  let v107 : BitVec 32 := Scalar.remsi v106 c4_i32_49
  let v108 : BitVec 32 := Scalar.muli c8_i32_50 v107
  let c2_i32_51 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v109 : BitVec 32 := Scalar.muli c2_i32_51 v37
  let v110 : BitVec 32 := Scalar.addi v108 v109
  let c2_i32_52 : BitVec 32 := 2#32
  let v111 : BitVec 32 := Scalar.remsi v37 c2_i32_52
  let c0_i32_53 : BitVec 32 := 0#32
  let v112 : BitVec 1 := Scalar.cmpi .eq v111 c0_i32_53
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_54 : BitVec 32 := 1#32
  let v113 : BitVec 32 := Scalar.subi c1_i32_54 v42
  let v114 : BitVec 32 := Scalar.select v112 v42 v113
  let v115 : BitVec 32 := Scalar.addi v110 v114
  let c1_i32_760 : BitVec 32 := 1#32
  let v823 : BitVec 32 := Scalar.muli v115 c1_i32_760
  let v824 : BitVec 32 := Scalar.addi c0_i32_761 v823
  v824.toNat
def k0_dev22 (d0 : Dev nD) : Nat :=
  let c0_i32_771 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v116 : BitVec 32 := Scalar.addi v19 c3_i32
  let c4_i32_55 : BitVec 32 := 4#32
  let v117 : BitVec 32 := Scalar.remsi v116 c4_i32_55
  let v118 : BitVec 32 := Scalar.muli c8_i32_56 v117
  let c2_i32_57 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v119 : BitVec 32 := Scalar.muli c2_i32_57 v37
  let v120 : BitVec 32 := Scalar.addi v118 v119
  let c2_i32_58 : BitVec 32 := 2#32
  let v121 : BitVec 32 := Scalar.remsi v37 c2_i32_58
  let c0_i32_59 : BitVec 32 := 0#32
  let v122 : BitVec 1 := Scalar.cmpi .eq v121 c0_i32_59
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_60 : BitVec 32 := 1#32
  let v123 : BitVec 32 := Scalar.subi c1_i32_60 v42
  let v124 : BitVec 32 := Scalar.select v122 v42 v123
  let v125 : BitVec 32 := Scalar.addi v120 v124
  let c1_i32_770 : BitVec 32 := 1#32
  let v833 : BitVec 32 := Scalar.muli v125 c1_i32_770
  let v834 : BitVec 32 := Scalar.addi c0_i32_771 v833
  v834.toNat
def k0_dev23 (d0 : Dev nD) : Nat :=
  let c0_i32_842 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v106 : BitVec 32 := Scalar.addi v19 c1_i32_48
  let c4_i32_49 : BitVec 32 := 4#32
  let v107 : BitVec 32 := Scalar.remsi v106 c4_i32_49
  let v108 : BitVec 32 := Scalar.muli c8_i32_50 v107
  let c2_i32_51 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v109 : BitVec 32 := Scalar.muli c2_i32_51 v37
  let v110 : BitVec 32 := Scalar.addi v108 v109
  let c2_i32_52 : BitVec 32 := 2#32
  let v111 : BitVec 32 := Scalar.remsi v37 c2_i32_52
  let c0_i32_53 : BitVec 32 := 0#32
  let v112 : BitVec 1 := Scalar.cmpi .eq v111 c0_i32_53
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_54 : BitVec 32 := 1#32
  let v113 : BitVec 32 := Scalar.subi c1_i32_54 v42
  let v114 : BitVec 32 := Scalar.select v112 v42 v113
  let v115 : BitVec 32 := Scalar.addi v110 v114
  let c1_i32_841 : BitVec 32 := 1#32
  let v900 : BitVec 32 := Scalar.muli v115 c1_i32_841
  let v901 : BitVec 32 := Scalar.addi c0_i32_842 v900
  v901.toNat
def k0_dev24 (d0 : Dev nD) : Nat :=
  let c0_i32_852 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v116 : BitVec 32 := Scalar.addi v19 c3_i32
  let c4_i32_55 : BitVec 32 := 4#32
  let v117 : BitVec 32 := Scalar.remsi v116 c4_i32_55
  let v118 : BitVec 32 := Scalar.muli c8_i32_56 v117
  let c2_i32_57 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v119 : BitVec 32 := Scalar.muli c2_i32_57 v37
  let v120 : BitVec 32 := Scalar.addi v118 v119
  let c2_i32_58 : BitVec 32 := 2#32
  let v121 : BitVec 32 := Scalar.remsi v37 c2_i32_58
  let c0_i32_59 : BitVec 32 := 0#32
  let v122 : BitVec 1 := Scalar.cmpi .eq v121 c0_i32_59
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_60 : BitVec 32 := 1#32
  let v123 : BitVec 32 := Scalar.subi c1_i32_60 v42
  let v124 : BitVec 32 := Scalar.select v122 v42 v123
  let v125 : BitVec 32 := Scalar.addi v120 v124
  let c1_i32_851 : BitVec 32 := 1#32
  let v910 : BitVec 32 := Scalar.muli v125 c1_i32_851
  let v911 : BitVec 32 := Scalar.addi c0_i32_852 v910
  v911.toNat
def k0_off9 (d0 : Dev nD) : Fin 2 → Nat :=
  let c256_i32_916 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let v983 : BitVec 32 := Scalar.muli c256_i32_916 v45
  let c64_i32_917 : BitVec 32 := 64#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v984 : BitVec 32 := Scalar.muli c64_i32_917 v19
  let v985 : BitVec 32 := Scalar.addi v983 v984
  let v986 : Index := Scalar.indexCast v985
  let c0_918 : Index := 0#32
  ![v986.toNat, 0]
def k0_off10 (d0 : Dev nD) : Fin 2 → Nat :=
  let c64_i32_931 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1001 : BitVec 32 := Scalar.muli c64_i32_931 v19
  let v1002 : Index := Scalar.indexCast v1001
  let c0_932 : Index := 0#32
  ![v1002.toNat, 0]
def k0_dev25 (d0 : Dev nD) : Nat :=
  let c0_i32_941 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v106 : BitVec 32 := Scalar.addi v19 c1_i32_48
  let c4_i32_49 : BitVec 32 := 4#32
  let v107 : BitVec 32 := Scalar.remsi v106 c4_i32_49
  let v108 : BitVec 32 := Scalar.muli c8_i32_50 v107
  let c2_i32_51 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v109 : BitVec 32 := Scalar.muli c2_i32_51 v37
  let v110 : BitVec 32 := Scalar.addi v108 v109
  let c2_i32_52 : BitVec 32 := 2#32
  let v111 : BitVec 32 := Scalar.remsi v37 c2_i32_52
  let c0_i32_53 : BitVec 32 := 0#32
  let v112 : BitVec 1 := Scalar.cmpi .eq v111 c0_i32_53
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_54 : BitVec 32 := 1#32
  let v113 : BitVec 32 := Scalar.subi c1_i32_54 v42
  let v114 : BitVec 32 := Scalar.select v112 v42 v113
  let v115 : BitVec 32 := Scalar.addi v110 v114
  let c1_i32_940 : BitVec 32 := 1#32
  let v1012 : BitVec 32 := Scalar.muli v115 c1_i32_940
  let v1013 : BitVec 32 := Scalar.addi c0_i32_941 v1012
  v1013.toNat
def k0_dev26 (d0 : Dev nD) : Nat :=
  let c0_i32_948 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v116 : BitVec 32 := Scalar.addi v19 c3_i32
  let c4_i32_55 : BitVec 32 := 4#32
  let v117 : BitVec 32 := Scalar.remsi v116 c4_i32_55
  let v118 : BitVec 32 := Scalar.muli c8_i32_56 v117
  let c2_i32_57 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v119 : BitVec 32 := Scalar.muli c2_i32_57 v37
  let v120 : BitVec 32 := Scalar.addi v118 v119
  let c2_i32_58 : BitVec 32 := 2#32
  let v121 : BitVec 32 := Scalar.remsi v37 c2_i32_58
  let c0_i32_59 : BitVec 32 := 0#32
  let v122 : BitVec 1 := Scalar.cmpi .eq v121 c0_i32_59
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_60 : BitVec 32 := 1#32
  let v123 : BitVec 32 := Scalar.subi c1_i32_60 v42
  let v124 : BitVec 32 := Scalar.select v122 v42 v123
  let v125 : BitVec 32 := Scalar.addi v120 v124
  let c1_i32_947 : BitVec 32 := 1#32
  let v1020 : BitVec 32 := Scalar.muli v125 c1_i32_947
  let v1021 : BitVec 32 := Scalar.addi c0_i32_948 v1020
  v1021.toNat
def k0_off11 (d0 : Dev nD) (c0_i32_960 : BitVec 32) : Fin 2 → Nat :=
  let c256_i32_965 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let v1040 : BitVec 32 := Scalar.muli c256_i32_965 v45
  let c64_i32_966 : BitVec 32 := 64#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_958 : BitVec 32 := 4#32
  let v1034 : BitVec 32 := Scalar.addi v19 c4_i32_958
  let c1_i32_959 : BitVec 32 := 1#32
  let v1035 : BitVec 32 := Scalar.subi v1034 c1_i32_959
  let v1036 : BitVec 32 := Scalar.subi v1035 c0_i32_960
  let c4_i32_961 : BitVec 32 := 4#32
  let v1037 : BitVec 32 := Scalar.remsi v1036 c4_i32_961
  let v1041 : BitVec 32 := Scalar.muli c64_i32_966 v1037
  let v1042 : BitVec 32 := Scalar.addi v1040 v1041
  let v1044 : Index := Scalar.indexCast v1042
  let c0_967 : Index := 0#32
  ![v1044.toNat, 0]
def k0_off12 (d0 : Dev nD) (c0_i32_960 : BitVec 32) : Fin 2 → Nat :=
  let c64_i32_968 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_958 : BitVec 32 := 4#32
  let v1034 : BitVec 32 := Scalar.addi v19 c4_i32_958
  let c1_i32_959 : BitVec 32 := 1#32
  let v1035 : BitVec 32 := Scalar.subi v1034 c1_i32_959
  let v1036 : BitVec 32 := Scalar.subi v1035 c0_i32_960
  let c4_i32_961 : BitVec 32 := 4#32
  let v1037 : BitVec 32 := Scalar.remsi v1036 c4_i32_961
  let v1046 : BitVec 32 := Scalar.muli c64_i32_968 v1037
  let v1047 : Index := Scalar.indexCast v1046
  let c0_969 : Index := 0#32
  ![v1047.toNat, 0]
def k0_off13 (d0 : Dev nD) (c0_i32_978 : BitVec 32) : Fin 2 → Nat :=
  let c256_i32_983 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let v1062 : BitVec 32 := Scalar.muli c256_i32_983 v45
  let c64_i32_984 : BitVec 32 := 64#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_977 : BitVec 32 := 1#32
  let v1057 : BitVec 32 := Scalar.addi v19 c1_i32_977
  let v1058 : BitVec 32 := Scalar.addi v1057 c0_i32_978
  let c4_i32_979 : BitVec 32 := 4#32
  let v1059 : BitVec 32 := Scalar.remsi v1058 c4_i32_979
  let v1063 : BitVec 32 := Scalar.muli c64_i32_984 v1059
  let v1064 : BitVec 32 := Scalar.addi v1062 v1063
  let v1066 : Index := Scalar.indexCast v1064
  let c1024_985 : Index := 1024#32
  ![v1066.toNat, 1024]
def k0_off14 (d0 : Dev nD) (c0_i32_978 : BitVec 32) : Fin 2 → Nat :=
  let c64_i32_986 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_977 : BitVec 32 := 1#32
  let v1057 : BitVec 32 := Scalar.addi v19 c1_i32_977
  let v1058 : BitVec 32 := Scalar.addi v1057 c0_i32_978
  let c4_i32_979 : BitVec 32 := 4#32
  let v1059 : BitVec 32 := Scalar.remsi v1058 c4_i32_979
  let v1068 : BitVec 32 := Scalar.muli c64_i32_986 v1059
  let v1069 : Index := Scalar.indexCast v1068
  let c0_987 : Index := 0#32
  ![v1069.toNat, 0]
def k0_dev27 (d0 : Dev nD) : Nat :=
  let c0_i32_1005 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v106 : BitVec 32 := Scalar.addi v19 c1_i32_48
  let c4_i32_49 : BitVec 32 := 4#32
  let v107 : BitVec 32 := Scalar.remsi v106 c4_i32_49
  let v108 : BitVec 32 := Scalar.muli c8_i32_50 v107
  let c2_i32_51 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v109 : BitVec 32 := Scalar.muli c2_i32_51 v37
  let v110 : BitVec 32 := Scalar.addi v108 v109
  let c2_i32_52 : BitVec 32 := 2#32
  let v111 : BitVec 32 := Scalar.remsi v37 c2_i32_52
  let c0_i32_53 : BitVec 32 := 0#32
  let v112 : BitVec 1 := Scalar.cmpi .eq v111 c0_i32_53
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_54 : BitVec 32 := 1#32
  let v113 : BitVec 32 := Scalar.subi c1_i32_54 v42
  let v114 : BitVec 32 := Scalar.select v112 v42 v113
  let v115 : BitVec 32 := Scalar.addi v110 v114
  let c1_i32_1004 : BitVec 32 := 1#32
  let v1081 : BitVec 32 := Scalar.muli v115 c1_i32_1004
  let v1082 : BitVec 32 := Scalar.addi c0_i32_1005 v1081
  v1082.toNat
def k0_dev28 (d0 : Dev nD) : Nat :=
  let c0_i32_1015 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v116 : BitVec 32 := Scalar.addi v19 c3_i32
  let c4_i32_55 : BitVec 32 := 4#32
  let v117 : BitVec 32 := Scalar.remsi v116 c4_i32_55
  let v118 : BitVec 32 := Scalar.muli c8_i32_56 v117
  let c2_i32_57 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v119 : BitVec 32 := Scalar.muli c2_i32_57 v37
  let v120 : BitVec 32 := Scalar.addi v118 v119
  let c2_i32_58 : BitVec 32 := 2#32
  let v121 : BitVec 32 := Scalar.remsi v37 c2_i32_58
  let c0_i32_59 : BitVec 32 := 0#32
  let v122 : BitVec 1 := Scalar.cmpi .eq v121 c0_i32_59
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_60 : BitVec 32 := 1#32
  let v123 : BitVec 32 := Scalar.subi c1_i32_60 v42
  let v124 : BitVec 32 := Scalar.select v122 v42 v123
  let v125 : BitVec 32 := Scalar.addi v120 v124
  let c1_i32_1014 : BitVec 32 := 1#32
  let v1091 : BitVec 32 := Scalar.muli v125 c1_i32_1014
  let v1092 : BitVec 32 := Scalar.addi c0_i32_1015 v1091
  v1092.toNat
def k0_dev29 (d0 : Dev nD) : Nat :=
  let c0_i32_1086 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v106 : BitVec 32 := Scalar.addi v19 c1_i32_48
  let c4_i32_49 : BitVec 32 := 4#32
  let v107 : BitVec 32 := Scalar.remsi v106 c4_i32_49
  let v108 : BitVec 32 := Scalar.muli c8_i32_50 v107
  let c2_i32_51 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v109 : BitVec 32 := Scalar.muli c2_i32_51 v37
  let v110 : BitVec 32 := Scalar.addi v108 v109
  let c2_i32_52 : BitVec 32 := 2#32
  let v111 : BitVec 32 := Scalar.remsi v37 c2_i32_52
  let c0_i32_53 : BitVec 32 := 0#32
  let v112 : BitVec 1 := Scalar.cmpi .eq v111 c0_i32_53
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_54 : BitVec 32 := 1#32
  let v113 : BitVec 32 := Scalar.subi c1_i32_54 v42
  let v114 : BitVec 32 := Scalar.select v112 v42 v113
  let v115 : BitVec 32 := Scalar.addi v110 v114
  let c1_i32_1085 : BitVec 32 := 1#32
  let v1162 : BitVec 32 := Scalar.muli v115 c1_i32_1085
  let v1163 : BitVec 32 := Scalar.addi c0_i32_1086 v1162
  v1163.toNat
def k0_dev30 (d0 : Dev nD) : Nat :=
  let c0_i32_1096 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v116 : BitVec 32 := Scalar.addi v19 c3_i32
  let c4_i32_55 : BitVec 32 := 4#32
  let v117 : BitVec 32 := Scalar.remsi v116 c4_i32_55
  let v118 : BitVec 32 := Scalar.muli c8_i32_56 v117
  let c2_i32_57 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v119 : BitVec 32 := Scalar.muli c2_i32_57 v37
  let v120 : BitVec 32 := Scalar.addi v118 v119
  let c2_i32_58 : BitVec 32 := 2#32
  let v121 : BitVec 32 := Scalar.remsi v37 c2_i32_58
  let c0_i32_59 : BitVec 32 := 0#32
  let v122 : BitVec 1 := Scalar.cmpi .eq v121 c0_i32_59
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_60 : BitVec 32 := 1#32
  let v123 : BitVec 32 := Scalar.subi c1_i32_60 v42
  let v124 : BitVec 32 := Scalar.select v122 v42 v123
  let v125 : BitVec 32 := Scalar.addi v120 v124
  let c1_i32_1095 : BitVec 32 := 1#32
  let v1172 : BitVec 32 := Scalar.muli v125 c1_i32_1095
  let v1173 : BitVec 32 := Scalar.addi c0_i32_1096 v1172
  v1173.toNat
def k0_dev31 (d0 : Dev nD) : Nat :=
  let c0_i32_1166 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_1165 : BitVec 32 := 1#32
  let v1243 : BitVec 32 := Scalar.muli v75 c1_i32_1165
  let v1244 : BitVec 32 := Scalar.addi c0_i32_1166 v1243
  v1244.toNat
def k0_dev32 (d0 : Dev nD) : Nat :=
  let c0_i32_1173 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_1172 : BitVec 32 := 1#32
  let v1251 : BitVec 32 := Scalar.muli v105 c1_i32_1172
  let v1252 : BitVec 32 := Scalar.addi c0_i32_1173 v1251
  v1252.toNat
def k0_off15 (d0 : Dev nD) (c0_i32_1185 : BitVec 32) : Fin 2 → Nat :=
  let c256_i32_1190 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c8_i32_1183 : BitVec 32 := 8#32
  let v1265 : BitVec 32 := Scalar.addi v45 c8_i32_1183
  let c1_i32_1184 : BitVec 32 := 1#32
  let v1266 : BitVec 32 := Scalar.subi v1265 c1_i32_1184
  let v1267 : BitVec 32 := Scalar.subi v1266 c0_i32_1185
  let c8_i32_1186 : BitVec 32 := 8#32
  let v1268 : BitVec 32 := Scalar.remsi v1267 c8_i32_1186
  let v1272 : BitVec 32 := Scalar.muli c256_i32_1190 v1268
  let v1273 : Index := Scalar.indexCast v1272
  let c0_1191 : Index := 0#32
  ![v1273.toNat, 0]
def k0_off16 (d0 : Dev nD) (c0_i32_1200 : BitVec 32) : Fin 2 → Nat :=
  let c256_i32_1205 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_1199 : BitVec 32 := 1#32
  let v1281 : BitVec 32 := Scalar.addi v45 c1_i32_1199
  let v1282 : BitVec 32 := Scalar.addi v1281 c0_i32_1200
  let c8_i32_1201 : BitVec 32 := 8#32
  let v1283 : BitVec 32 := Scalar.remsi v1282 c8_i32_1201
  let v1287 : BitVec 32 := Scalar.muli c256_i32_1205 v1283
  let v1288 : Index := Scalar.indexCast v1287
  let c1024_1206 : Index := 1024#32
  ![v1288.toNat, 1024]
def k0_dev33 (d0 : Dev nD) : Nat :=
  let c0_i32_1224 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_1223 : BitVec 32 := 1#32
  let v1298 : BitVec 32 := Scalar.muli v75 c1_i32_1223
  let v1299 : BitVec 32 := Scalar.addi c0_i32_1224 v1298
  v1299.toNat
def k0_dev34 (d0 : Dev nD) : Nat :=
  let c0_i32_1234 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_1233 : BitVec 32 := 1#32
  let v1308 : BitVec 32 := Scalar.muli v105 c1_i32_1233
  let v1309 : BitVec 32 := Scalar.addi c0_i32_1234 v1308
  v1309.toNat
def k0_dev35 (d0 : Dev nD) : Nat :=
  let c0_i32_1299 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_1298 : BitVec 32 := 1#32
  let v1365 : BitVec 32 := Scalar.muli v75 c1_i32_1298
  let v1366 : BitVec 32 := Scalar.addi c0_i32_1299 v1365
  v1366.toNat
def k0_dev36 (d0 : Dev nD) : Nat :=
  let c0_i32_1309 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_1308 : BitVec 32 := 1#32
  let v1375 : BitVec 32 := Scalar.muli v105 c1_i32_1308
  let v1376 : BitVec 32 := Scalar.addi c0_i32_1309 v1375
  v1376.toNat
def k0_dev37 (d0 : Dev nD) : Nat :=
  let c0_i32_1374 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_1373 : BitVec 32 := 1#32
  let v1432 : BitVec 32 := Scalar.muli v75 c1_i32_1373
  let v1433 : BitVec 32 := Scalar.addi c0_i32_1374 v1432
  v1433.toNat
def k0_dev38 (d0 : Dev nD) : Nat :=
  let c0_i32_1384 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_1383 : BitVec 32 := 1#32
  let v1442 : BitVec 32 := Scalar.muli v105 c1_i32_1383
  let v1443 : BitVec 32 := Scalar.addi c0_i32_1384 v1442
  v1443.toNat
def k0_dev39 (d0 : Dev nD) : Nat :=
  let c0_i32_1449 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_1448 : BitVec 32 := 1#32
  let v1499 : BitVec 32 := Scalar.muli v75 c1_i32_1448
  let v1500 : BitVec 32 := Scalar.addi c0_i32_1449 v1499
  v1500.toNat
def k0_dev40 (d0 : Dev nD) : Nat :=
  let c0_i32_1459 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_1458 : BitVec 32 := 1#32
  let v1509 : BitVec 32 := Scalar.muli v105 c1_i32_1458
  let v1510 : BitVec 32 := Scalar.addi c0_i32_1459 v1509
  v1510.toNat
def k0_dev41 (d0 : Dev nD) : Nat :=
  let c0_i32_1524 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_1523 : BitVec 32 := 1#32
  let v1566 : BitVec 32 := Scalar.muli v75 c1_i32_1523
  let v1567 : BitVec 32 := Scalar.addi c0_i32_1524 v1566
  v1567.toNat
def k0_dev42 (d0 : Dev nD) : Nat :=
  let c0_i32_1534 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_1533 : BitVec 32 := 1#32
  let v1576 : BitVec 32 := Scalar.muli v105 c1_i32_1533
  let v1577 : BitVec 32 := Scalar.addi c0_i32_1534 v1576
  v1577.toNat
def k0_dev43 (d0 : Dev nD) : Nat :=
  let c0_i32_1599 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c8_i32_27 v19
  let c2_i32_28 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c1_i32_17 : BitVec 32 := 1#32
  let v46 : BitVec 32 := Scalar.addi v45 c1_i32_17
  let c8_i32_18 : BitVec 32 := 8#32
  let v47 : BitVec 32 := Scalar.remsi v46 c8_i32_18
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c4_i32 : BitVec 32 := 4#32
  let c0_i32_21 : BitVec 32 := 0#32
  let v54 : BitVec 1 := Scalar.cmpi .sgt c4_i32 c0_i32_21
  let v55 : BitVec 32 := Scalar.extui v54
  let c0_i32_22 : BitVec 32 := 0#32
  let v56 : BitVec 1 := Scalar.cmpi .slt c4_i32 c0_i32_22
  let v57 : BitVec 32 := Scalar.extui v56
  let v58 : BitVec 32 := Scalar.subi v55 v57
  let v59 : BitVec 1 := Scalar.cmpi .ne v53 v58
  let v60 : BitVec 32 := Scalar.remsi v47 c4_i32
  let c0_i32_23 : BitVec 32 := 0#32
  let v61 : BitVec 1 := Scalar.cmpi .ne v60 c0_i32_23
  let v62 : BitVec 1 := Scalar.andi v59 v61
  let v48 : BitVec 32 := Scalar.divsi v47 c4_i32
  let c1_i32_24 : BitVec 32 := 1#32
  let v63 : BitVec 32 := Scalar.subi v48 c1_i32_24
  let v64 : BitVec 32 := Scalar.select v62 v63 v48
  let c0_i32_25 : BitVec 32 := 0#32
  let v65 : BitVec 1 := Scalar.cmpi .eq v64 c0_i32_25
  let c7_i32_26 : BitVec 32 := 7#32
  let v66 : BitVec 32 := Scalar.subi c7_i32_26 v47
  let v67 : BitVec 32 := Scalar.select v65 v47 v66
  let v69 : BitVec 32 := Scalar.muli c2_i32_28 v67
  let v70 : BitVec 32 := Scalar.addi v68 v69
  let c2_i32_29 : BitVec 32 := 2#32
  let v71 : BitVec 32 := Scalar.remsi v67 c2_i32_29
  let c0_i32_30 : BitVec 32 := 0#32
  let v72 : BitVec 1 := Scalar.cmpi .eq v71 c0_i32_30
  let c1_i32_31 : BitVec 32 := 1#32
  let v73 : BitVec 32 := Scalar.subi c1_i32_31 v64
  let v74 : BitVec 32 := Scalar.select v72 v64 v73
  let v75 : BitVec 32 := Scalar.addi v70 v74
  let c1_i32_1598 : BitVec 32 := 1#32
  let v1633 : BitVec 32 := Scalar.muli v75 c1_i32_1598
  let v1634 : BitVec 32 := Scalar.addi c0_i32_1599 v1633
  v1634.toNat
def k0_dev44 (d0 : Dev nD) : Nat :=
  let c0_i32_1609 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v98 : BitVec 32 := Scalar.muli c8_i32_43 v19
  let c2_i32_44 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_16 : BitVec 32 := 0#32
  let v43 : BitVec 1 := Scalar.cmpi .eq v42 c0_i32_16
  let c7_i32 : BitVec 32 := 7#32
  let v44 : BitVec 32 := Scalar.subi c7_i32 v37
  let v45 : BitVec 32 := Scalar.select v43 v37 v44
  let c7_i32_32 : BitVec 32 := 7#32
  let v76 : BitVec 32 := Scalar.addi v45 c7_i32_32
  let c8_i32_33 : BitVec 32 := 8#32
  let v77 : BitVec 32 := Scalar.remsi v76 c8_i32_33
  let c0_i32_35 : BitVec 32 := 0#32
  let v79 : BitVec 1 := Scalar.cmpi .sgt v77 c0_i32_35
  let v80 : BitVec 32 := Scalar.extui v79
  let c0_i32_36 : BitVec 32 := 0#32
  let v81 : BitVec 1 := Scalar.cmpi .slt v77 c0_i32_36
  let v82 : BitVec 32 := Scalar.extui v81
  let v83 : BitVec 32 := Scalar.subi v80 v82
  let c4_i32_34 : BitVec 32 := 4#32
  let c0_i32_37 : BitVec 32 := 0#32
  let v84 : BitVec 1 := Scalar.cmpi .sgt c4_i32_34 c0_i32_37
  let v85 : BitVec 32 := Scalar.extui v84
  let c0_i32_38 : BitVec 32 := 0#32
  let v86 : BitVec 1 := Scalar.cmpi .slt c4_i32_34 c0_i32_38
  let v87 : BitVec 32 := Scalar.extui v86
  let v88 : BitVec 32 := Scalar.subi v85 v87
  let v89 : BitVec 1 := Scalar.cmpi .ne v83 v88
  let v90 : BitVec 32 := Scalar.remsi v77 c4_i32_34
  let c0_i32_39 : BitVec 32 := 0#32
  let v91 : BitVec 1 := Scalar.cmpi .ne v90 c0_i32_39
  let v92 : BitVec 1 := Scalar.andi v89 v91
  let v78 : BitVec 32 := Scalar.divsi v77 c4_i32_34
  let c1_i32_40 : BitVec 32 := 1#32
  let v93 : BitVec 32 := Scalar.subi v78 c1_i32_40
  let v94 : BitVec 32 := Scalar.select v92 v93 v78
  let c0_i32_41 : BitVec 32 := 0#32
  let v95 : BitVec 1 := Scalar.cmpi .eq v94 c0_i32_41
  let c7_i32_42 : BitVec 32 := 7#32
  let v96 : BitVec 32 := Scalar.subi c7_i32_42 v77
  let v97 : BitVec 32 := Scalar.select v95 v77 v96
  let v99 : BitVec 32 := Scalar.muli c2_i32_44 v97
  let v100 : BitVec 32 := Scalar.addi v98 v99
  let c2_i32_45 : BitVec 32 := 2#32
  let v101 : BitVec 32 := Scalar.remsi v97 c2_i32_45
  let c0_i32_46 : BitVec 32 := 0#32
  let v102 : BitVec 1 := Scalar.cmpi .eq v101 c0_i32_46
  let c1_i32_47 : BitVec 32 := 1#32
  let v103 : BitVec 32 := Scalar.subi c1_i32_47 v94
  let v104 : BitVec 32 := Scalar.select v102 v94 v103
  let v105 : BitVec 32 := Scalar.addi v100 v104
  let c1_i32_1608 : BitVec 32 := 1#32
  let v1643 : BitVec 32 := Scalar.muli v105 c1_i32_1608
  let v1644 : BitVec 32 := Scalar.addi c0_i32_1609 v1643
  v1644.toNat
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Chan.lean ====
/-
# The eight channels of the kernel's exchanges

The kernel reduces and then gathers along two rings: the eight devices of a plane, and the four planes.
Each ring is run in both directions at once, so there are eight channels: reduce or gather, plane or
column ring, and two directions (`b = false` sends to the next device of the ring, `b = true` to the one
before). A channel at a device has a landing buffer of `len` slots of `rows × 1024`, one send and one
receive semaphore per slot; step `t` of the channel fills slot `t`.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe

/-- A channel: gather (`ag`) or reduce, column ring (`z`) or plane ring, backward (`b`) or forward. -/
structure Ch where
  ag : Bool
  z : Bool
  b : Bool
  deriving DecidableEq

instance : Fintype Ch :=
  Fintype.ofEquiv (Bool × Bool × Bool)
    ⟨fun p => ⟨p.1, p.2.1, p.2.2⟩, fun k => (k.ag, k.z, k.b), fun _ => rfl, fun _ => rfl⟩

/-- How many steps a ring takes. -/
abbrev lenZ (z : Bool) : ℕ := bif z then 3 else 7
/-- How many rows a transfer of the ring carries. -/
abbrev rowsZ (z : Bool) : ℕ := bif z then 64 else 256

abbrev Ch.len (k : Ch) : ℕ := lenZ k.z
abbrev Ch.rows (k : Ch) : ℕ := rowsZ k.z

/-- One transfer's shape. -/
abbrev shp (z : Bool) : Shape := ⟨2, ![rowsZ z, 1024]⟩
/-- The same as a slot of a buffer of several. -/
abbrev slotShp (z : Bool) : Shape := ⟨3, ![1, rowsZ z, 1024]⟩
/-- A buffer of `n` slots. -/
abbrev bufShp (n : ℕ) (z : Bool) : Shape := ⟨3, ![n, rowsZ z, 1024]⟩

/-! ## Buffers -/

/-- The landing buffer of a channel. -/
def rbuf : (k : Ch) → Memref sig .tc .vmem (bufShp k.len k.z) .bf16
  | ⟨false, false, false⟩ => Memref.whole cc0_scratch2
  | ⟨false, false, true⟩ => Memref.whole cc0_scratch3
  | ⟨false, true, false⟩ => Memref.whole cc0_scratch6
  | ⟨false, true, true⟩ => Memref.whole cc0_scratch7
  | ⟨true, true, false⟩ => Memref.whole cc0_scratch13
  | ⟨true, true, true⟩ => Memref.whole cc0_scratch14
  | ⟨true, false, false⟩ => Memref.whole cc0_scratch17
  | ⟨true, false, true⟩ => Memref.whole cc0_scratch18

/-- The two-slot staging buffer a reduce channel sends from. -/
def sbuf : (z b : Bool) → Memref sig .tc .vmem (bufShp 2 z) .bf16
  | false, false => Memref.whole cc0_scratch0
  | false, true => Memref.whole cc0_scratch1
  | true, false => Memref.whole cc0_scratch4
  | true, true => Memref.whole cc0_scratch5

/-- The whole buffer a gather channel sends from at its first step. -/
def gsrc : (z b : Bool) → Memref sig .tc .vmem (shp z) .bf16
  | true, false => Memref.whole cc0_scratch11
  | true, true => Memref.whole cc0_scratch12
  | false, false => Memref.whole cc0_scratch15
  | false, true => Memref.whole cc0_scratch16

/-- The `f32` totals of a plane ring. -/
def plane : (b : Bool) → Memref sig .tc .vmem S256x1024 .f32
  | false => Memref.whole cc0_scratch8
  | true => Memref.whole cc0_scratch9

abbrev xM : Memref sig .tc .vmem S2048x64 .bf16 := Memref.whole cc0_stg0_0
abbrev wM : Memref sig .tc .vmem S64x2048 .bf16 := Memref.whole cc0_stg1_0
abbrev oM : Memref sig .tc .vmem S2048x2048 .f32 := Memref.whole cc0_stg2_0
abbrev ownM : Memref sig .tc .vmem S64x2048 .bf16 := Memref.whole cc0_scratch10

theorem rbuf_whole (k : Ch) : (rbuf k).IsWhole := by
  obtain ⟨a, z, b⟩ := k; cases a <;> cases z <;> cases b <;> exact Memref.isWhole_whole _
theorem sbuf_whole (z b : Bool) : (sbuf z b).IsWhole := by cases z <;> cases b <;> exact Memref.isWhole_whole _
theorem gsrc_whole (z b : Bool) : (gsrc z b).IsWhole := by cases z <;> cases b <;> exact Memref.isWhole_whole _
theorem plane_whole (b : Bool) : (plane b).IsWhole := by cases b <;> exact Memref.isWhole_whole _

/-! ## Slots -/

theorem slot_inb {n : ℕ} (z : Bool) (t : Fin n) :
    ∀ a, (![t.val, 0, 0] : Fin 3 → Nat) a + (slotShp z).size a ≤ (bufShp n z).size a := by
  intro a
  have := t.isLt
  fin_cases a
  · show t.val + 1 ≤ n; omega
  · show 0 + rowsZ z ≤ rowsZ z; omega
  · show 0 + 1024 ≤ 1024; omega

theorem slot_squeezes (z : Bool) : (slotShp z).Squeezes (shp z) := by
  cases z
  · exact squeezes_S1x256x1024_S256x1024
  · exact squeezes_S1x64x1024_S64x1024
theorem slot_pos (z : Bool) : 0 < (slotShp z).numel := by
  cases z
  · exact h_S1x256x1024
  · exact h_S1x64x1024
theorem shp_pos (z : Bool) : 0 < (shp z).numel := by
  cases z
  · exact h_S256x1024
  · exact h_S64x1024
theorem slot_cast (z : Bool) : (slotShp z).ShapeCasts (shp z) := by
  cases z
  · exact shapeCasts_S1x256x1024_S256x1024
  · exact shapeCasts_S1x64x1024_S64x1024
theorem cast_slot (z : Bool) : (shp z).ShapeCasts (slotShp z) := by
  cases z
  · exact shapeCasts_S256x1024_S1x256x1024
  · exact shapeCasts_S64x1024_S1x64x1024
theorem shp_cast (z : Bool) : (shp z).ShapeCasts (shp z) := by
  cases z
  · exact shapeCasts_S256x1024_S256x1024
  · exact shapeCasts_S64x1024_S64x1024

/-- Slot `t` of a buffer of `n` slots, as a rectangle. -/
abbrev slotR {n : ℕ} (z : Bool) (t : Fin n) : Rect (bufShp n z) :=
  Rect.unit (s := bufShp n z) ![t.val, 0, 0] (slotShp z).size (slot_inb z t)

/-- Slot `t` of a buffer, as a buffer of one transfer's shape. -/
abbrev slotOf {n : ℕ} {z : Bool} (m : Memref sig .tc .vmem (bufShp n z) .bf16) (t : Fin n) :
    Memref sig .tc .vmem (shp z) .bf16 :=
  (m.slice (slotR z t) (fun _ => rfl)).squeeze (shp z) (slot_squeezes z)

/-- Where step `t` of a channel lands. -/
def slotM (k : Ch) (t : Fin k.len) : Memref sig .tc .vmem (shp k.z) .bf16 := slotOf (rbuf k) t

theorem words7 (t : Fin 7) : (slotR false t).WholeWords (EltTy.packing .bf16) := by
  fin_cases t
  · exact wordsbf16_S7x256x1024_S1x256x1024_0_0_0
  · exact wordsbf16_S7x256x1024_S1x256x1024_1_0_0
  · exact wordsbf16_S7x256x1024_S1x256x1024_2_0_0
  · exact wordsbf16_S7x256x1024_S1x256x1024_3_0_0
  · exact wordsbf16_S7x256x1024_S1x256x1024_4_0_0
  · exact wordsbf16_S7x256x1024_S1x256x1024_5_0_0
  · exact wordsbf16_S7x256x1024_S1x256x1024_6_0_0
theorem words3 (t : Fin 3) : (slotR true t).WholeWords (EltTy.packing .bf16) := by
  fin_cases t
  · exact wordsbf16_S3x64x1024_S1x64x1024_0_0_0
  · exact wordsbf16_S3x64x1024_S1x64x1024_1_0_0
  · exact wordsbf16_S3x64x1024_S1x64x1024_2_0_0
theorem words2 (z : Bool) (p : Fin 2) : (slotR z p).WholeWords (EltTy.packing .bf16) := by
  cases z <;> fin_cases p
  · exact wordsbf16_S2x256x1024_S1x256x1024_0_0_0
  · exact wordsbf16_S2x256x1024_S1x256x1024_1_0_0
  · exact wordsbf16_S2x64x1024_S1x64x1024_0_0_0
  · exact wordsbf16_S2x64x1024_S1x64x1024_1_0_0
theorem packed2 (z : Bool) (p : Fin 2) : (slotR z p).PackedRows (EltTy.packing .bf16) := by
  cases z <;> fin_cases p
  · exact packedbf16_S2x256x1024_S1x256x1024_0_0_0
  · exact packedbf16_S2x256x1024_S1x256x1024_1_0_0
  · exact packedbf16_S2x64x1024_S1x64x1024_0_0_0
  · exact packedbf16_S2x64x1024_S1x64x1024_1_0_0

theorem words (z : Bool) (t : Fin (lenZ z)) : (slotR z t).WholeWords (EltTy.packing .bf16) := by
  cases z
  · exact words7 t
  · exact words3 t

theorem slotM_word (k : Ch) (t : Fin k.len) : (slotM k t).view.WordExact :=
  ((rbuf_whole k).wordExact_slice rfl _ (words k.z t)).reshape _ _
theorem stage_word (z b : Bool) (p : Fin 2) : (slotOf (sbuf z b) p).view.WordExact :=
  ((sbuf_whole z b).wordExact_slice rfl _ (words2 z p)).reshape _ _

/-- What step `t` of a channel sends: a reduce channel its staging slot, a gather channel its own block at
    first and then what the step before brought. -/
def srcM : (k : Ch) → (t : Fin k.len) → Memref sig .tc .vmem (shp k.z) .bf16
  | ⟨false, z, b⟩, ⟨t, _⟩ => slotOf (sbuf z b) ⟨t % 2, Nat.mod_lt _ (by decide)⟩
  | ⟨true, z, b⟩, ⟨0, _⟩ => gsrc z b
  | ⟨true, z, b⟩, ⟨t + 1, h⟩ => slotM ⟨true, z, b⟩ ⟨t, Nat.lt_of_succ_lt h⟩

theorem srcM_word : (k : Ch) → (t : Fin k.len) → (srcM k t).view.WordExact
  | ⟨false, z, b⟩, ⟨t, _⟩ => stage_word z b _
  | ⟨true, z, b⟩, ⟨0, _⟩ => (gsrc_whole z b).wordExact
  | ⟨true, z, b⟩, ⟨t + 1, h⟩ => slotM_word ⟨true, z, b⟩ _

/-! ## Semaphores -/

theorem sem_inb {n : ℕ} (t : Fin n) : ∀ a, (![t.val] : Fin 1 → Nat) a + S1.size a ≤ (⟨1, ![n]⟩ : Shape).size a := by
  intro a
  have := t.isLt
  fin_cases a
  show t.val + 1 ≤ n; omega

/-- Semaphore `t` of an array of `n`. -/
abbrev semAt {n : ℕ} (s : DmaSems sig ⟨1, ![n]⟩) (t : Fin n) : DmaSem sig :=
  ((s.slice (Rect.unit (s := ⟨1, ![n]⟩) ![t.val] S1.size (sem_inb t))).squeeze S_ squeezes_S1_S_).sem

def ssems : (k : Ch) → DmaSems sig ⟨1, ![k.len]⟩
  | ⟨false, false, false⟩ => cc0_scratch19
  | ⟨false, false, true⟩ => cc0_scratch21
  | ⟨false, true, false⟩ => cc0_scratch23
  | ⟨false, true, true⟩ => cc0_scratch25
  | ⟨true, true, false⟩ => cc0_scratch27
  | ⟨true, true, true⟩ => cc0_scratch29
  | ⟨true, false, false⟩ => cc0_scratch31
  | ⟨true, false, true⟩ => cc0_scratch33

def rsems : (k : Ch) → DmaSems sig ⟨1, ![k.len]⟩
  | ⟨false, false, false⟩ => cc0_scratch20
  | ⟨false, false, true⟩ => cc0_scratch22
  | ⟨false, true, false⟩ => cc0_scratch24
  | ⟨false, true, true⟩ => cc0_scratch26
  | ⟨true, true, false⟩ => cc0_scratch28
  | ⟨true, true, true⟩ => cc0_scratch30
  | ⟨true, false, false⟩ => cc0_scratch32
  | ⟨true, false, true⟩ => cc0_scratch34

/-- The semaphore that says step `t`'s source has been read. -/
def ssem (k : Ch) (t : Fin k.len) : DmaSem sig := semAt (ssems k) t
/-- The semaphore that says step `t`'s slot has been filled. -/
def rsem (k : Ch) (t : Fin k.len) : DmaSem sig := semAt (rsems k) t

/-- The barrier semaphore. -/
abbrev barS : Sem sig := (SemArray.scalar (sig.barrier 0 rfl) : Sems sig S_).sem

end Cert.KernelIdeal.Ring

end
-- ==== Proof.Spine.lean ====
/-
# The kernel as a short program

The printed body is a straight line of several hundred operations. Here it is written again as what it is:
the handshake, two seeds, seven steps of the plane reduce, three of the column reduce, the finish of the
device's own block, three steps of the column gather and seven of the plane gather. Every step runs its two
directions side by side. `body_eq` says that the printed body is this program.
-/
module

public import proofs.«01_k».proof.Proof.Chan

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

variable (F) in
/-- A program of the kernel's core. -/
abbrev Pr (α : Type) : Type _ := Prog (TpuEff nD τ sig (Elt F) Λ₀ .tc) α

/-! ## Values -/

/-- A loaded slot as a transfer's block, and back. -/
def unslot (z : Bool) (v : Vec F (slotShp z) .bf16) : FVec F (shp z) .bf16 := shapeCast (shp z) v (slot_cast z)
def toSlot (z : Bool) (v : FVec F (shp z) .bf16) : FVec F (slotShp z) .bf16 := shapeCast (slotShp z) v (cast_slot z)
/-- Round to `bf16` and widen back. -/
def down {s : Shape} (v : FVec F s .f32) : FVec F s .bf16 := truncf .bf16 v bitsLt_bf16_f32
def up {s : Shape} (v : FVec F s .bf16) : FVec F s .f32 := extf .f32 v bitsLt_bf16_f32
/-- A chunk of `x` times a half of `w`. -/
def xdot (w : FVec F S64x1024 .bf16) (x : Vec F S256x64 .bf16) : FVec F S256x1024 .f32 :=
  matmul dot_S256x64_S64x1024_S256x1024_1_0_0_1_n_n none (shapeCast S256x64 x shapeCasts_S256x64_S256x64) w
    (constant S256x1024 .f32 0x00000000#32)

/-! ## Operations of one direction of a step -/

/-- Start transfer `t` of a channel, to device `d`. -/
def sendOp (k : Ch) (t : Fin k.len) (d : Dev nD) : Pr F PUnit :=
  Prog.lift (.enqueueDma (srcM k t) (.remote (Dev.tc d) (slotM k t) (.dma (ssem k t))) (.dma (rsem k t))
    (srcM_word k t) (slotM_word k t) ⟨⟨rfl, Or.inl rfl⟩, trivial⟩)
/-- Wait for slot `t` to be filled. -/
def recvOp (k : Ch) (t : Fin k.len) : Pr F PUnit :=
  Prog.lift (.waitDma2 (rsem k t) (srcM k t) (slotM k t) (srcM_word k t) (slotM_word k t))
/-- Wait for transfer `t`'s source to be free. -/
def sentOp (k : Ch) (t : Fin k.len) : Pr F PUnit :=
  Prog.lift (.waitDma2 (ssem k t) (slotM k t) (srcM k t) (slotM_word k t) (srcM_word k t))
/-- Read slot `t`. -/
def loadSlot (k : Ch) (t : Fin k.len) : Pr F (Vec F (slotShp k.z) .bf16) :=
  Prog.lift (.load (rbuf k) (slotR k.z t).toLoadRect (View.loadsAt_vmem (slot_pos k.z)))
/-- Fill staging slot `p`: the printed store reads the slot first and drops what it read. -/
def stageOp (z b : Bool) (p : Fin 2) (v : FVec F (shp z) .bf16) : Pr F PUnit := do
  let _ : Vec F (slotShp z) .bf16 ← Prog.lift (.load (sbuf z b) (slotR z p).toLoadRect (View.loadsAt_vmem (slot_pos z)))
  Prog.lift (.store (sbuf z b) (slotR z p) (toSlot z v) Finset.univ
    (View.stores_vmem (slot_pos z) ((sbuf_whole z b).storeExact_slice rfl _ (packed2 z p)) (fun _ => rfl)) (.inl rfl))

/-- Read 256 rows of `x` at an offset. -/
def loadX (off : Fin 2 → Nat) (h : ∀ a, off a + S256x64.size a ≤ S2048x64.size a) : Pr F (Vec F S256x64 .bf16) :=
  Prog.lift (.load xM (Rect.unit (s := S2048x64) off S256x64.size h).toLoadRect (View.loadsAt_vmem h_S256x64))
/-- Read 64 rows of a plane total at an offset. -/
def loadPlane (b : Bool) (off : Fin 2 → Nat) (h : ∀ a, off a + S64x1024.size a ≤ S256x1024.size a) : Pr F (Vec F S64x1024 .f32) :=
  Prog.lift (.load (plane b) (Rect.unit (s := S256x1024) off S64x1024.size h).toLoadRect (View.loadsAt_vmem h_S64x1024))
/-- Replace a plane total. -/
def storePlane (b : Bool) (v : FVec F S256x1024 .f32) : Pr F PUnit := do
  let _ : Vec F S256x1024 .f32 ← Prog.lift (.load (plane b) (Rect.unit (s := S256x1024) ![0, 0] S256x1024.size
    inb_S256x1024_S256x1024_0_0).toLoadRect (View.loadsAt_vmem h_S256x1024))
  Prog.lift (.store (plane b) (Rect.unit (s := S256x1024) ![0, 0] S256x1024.size inb_S256x1024_S256x1024_0_0)
    (shapeCast S256x1024 v shapeCasts_S256x1024_S256x1024) Finset.univ (View.stores_vmem_bits_univ h_S256x1024 rfl) (.inl rfl))
/-- Write a rectangle of the result. -/
def storeOut (sz : Fin 2 → Nat) (h0 : 0 < (⟨2, sz⟩ : Shape).numel) (off : Fin 2 → Nat)
    (h : ∀ a, off a + sz a ≤ S2048x2048.size a) (v : FVec F ⟨2, sz⟩ .f32) : Pr F PUnit := do
  let _ : Vec F ⟨2, sz⟩ .f32 ← Prog.lift (.load oM (Rect.unit (s := S2048x2048) off sz h).toLoadRect (View.loadsAt_vmem h0))
  Prog.lift (.store oM (Rect.unit (s := S2048x2048) off sz h) v Finset.univ (View.stores_vmem_bits_univ h0 rfl) (.inl rfl))
/-- Write 64 rows of the source of a plane gather. -/
def storeGsrc (b : Bool) (off : Fin 2 → Nat) (h : ∀ a, off a + S64x1024.size a ≤ S256x1024.size a)
    (hp : (Rect.unit (s := S256x1024) off S64x1024.size h).PackedRows (EltTy.packing .bf16)) (v : FVec F S64x1024 .bf16) : Pr F PUnit := do
  let _ : Vec F S64x1024 .bf16 ← Prog.lift (.load (gsrc false b) (Rect.unit (s := S256x1024) off S64x1024.size h).toLoadRect
    (View.loadsAt_vmem h_S64x1024))
  Prog.lift (.store (gsrc false b) (Rect.unit (s := S256x1024) off S64x1024.size h)
    (shapeCast S64x1024 v shapeCasts_S64x1024_S64x1024) Finset.univ
    (View.stores_vmem h_S64x1024 ((gsrc_whole false b).storeExact_slice rfl _ hp) (fun _ => rfl)) (.inl rfl))

/-! ## Steps -/

/-- The row of `x` a direction of the plane reduce multiplies at step `t`. -/
def xoff (b : Bool) (c : Dev nD) (t : Fin 7) : Fin 2 → Nat :=
  bif b then k0_off4 c (BitVec.ofNat 32 t.val) else k0_off3 c (BitVec.ofNat 32 t.val)
theorem xoff_inb (b : Bool) (c : Dev nD) (t : Fin 7) : ∀ a, xoff b c t a + S256x64.size a ≤ S2048x64.size a := by
  cases b
  · exact k0_off3_inb c t
  · exact k0_off4_inb c t
/-- The row of the plane total a direction of the column reduce adds at step `t`. -/
def zoff (b : Bool) (c : Dev nD) (t : Fin 3) : Fin 2 → Nat :=
  bif b then k0_off8 c (BitVec.ofNat 32 t.val) else k0_off7 c (BitVec.ofNat 32 t.val)
theorem zoff_inb (b : Bool) (c : Dev nD) (t : Fin 3) : ∀ a, zoff b c t a + S64x1024.size a ≤ S256x1024.size a := by
  cases b
  · exact k0_off7_inb c t
  · exact k0_off8_inb c t

/-- A reduce channel of the plane, of the columns; a gather channel of each. -/
abbrev pR (b : Bool) : Ch := ⟨false, false, b⟩
abbrev zR (b : Bool) : Ch := ⟨false, true, b⟩
abbrev zG (b : Bool) : Ch := ⟨true, true, b⟩
abbrev pG (b : Bool) : Ch := ⟨true, false, b⟩

/-- The other staging slot than step `t`'s. -/
abbrev nextSlot (t : ℕ) : Fin 2 := ⟨(t + 1) % 2, Nat.mod_lt _ (by decide)⟩

/-- Take in slot `t` of a reduce channel, add the device's own part and stage the sum for the next step. -/
def takeOp (z b : Bool) (t : Fin (lenZ z)) (part : FVec F (shp z) .f32) : Pr F PUnit := do
  recvOp ⟨false, z, b⟩ t
  let v ← loadSlot ⟨false, z, b⟩ t
  stageOp z b (nextSlot t.val) (down (addf part (up (unslot z v))))
/-- The last one of a ring: the sum is the result. -/
def lastOp (z b : Bool) (t : Fin (lenZ z)) (part : FVec F (shp z) .f32) : Pr F (FVec F (shp z) .f32) := do
  recvOp ⟨false, z, b⟩ t
  let v ← loadSlot ⟨false, z, b⟩ t
  pure (addf part (up (unslot z v)))

/-- A step of the plane reduce. -/
def planeStep (c : Dev nD) (t : Fin 7) (dA dB : Dev nD) (w : Bool → FVec F S64x1024 .bf16) : Pr F PUnit := do
  sendOp (pR false) t dA
  sendOp (pR true) t dB
  let xa ← loadX (xoff false c t) (xoff_inb false c t)
  let xb ← loadX (xoff true c t) (xoff_inb true c t)
  takeOp false false t (xdot (w false) xa)
  takeOp false true t (xdot (w true) xb)
  sentOp (pR false) t
  sentOp (pR true) t
/-- Its last step. -/
def planeLast (c : Dev nD) (dA dB : Dev nD) (w : Bool → FVec F S64x1024 .bf16) : Pr F PUnit := do
  sendOp (pR false) (6 : Fin 7) dA
  sendOp (pR true) (6 : Fin 7) dB
  let xa ← loadX (xoff false c 6) (xoff_inb false c 6)
  let xb ← loadX (xoff true c 6) (xoff_inb true c 6)
  let fa ← lastOp false false (6 : Fin 7) (xdot (w false) xa)
  let fb ← lastOp false true (6 : Fin 7) (xdot (w true) xb)
  sentOp (pR false) (6 : Fin 7)
  sentOp (pR true) (6 : Fin 7)
  storePlane false fa
  storePlane true fb

/-- A step of the column reduce. -/
def colStep (c : Dev nD) (t : Fin 3) (dA dB : Dev nD) : Pr F PUnit := do
  sendOp (zR false) t dA
  sendOp (zR true) t dB
  let ya ← loadPlane false (zoff false c t) (zoff_inb false c t)
  let yb ← loadPlane true (zoff true c t) (zoff_inb true c t)
  takeOp true false t ya
  takeOp true true t yb
  sentOp (zR false) t
  sentOp (zR true) t

/-- The last step of the column reduce, and the finish of the device's own block: the block of the result,
    and its rounded copy where the gathers send from. -/
def colLast (c : Dev nD) (dA dB : Dev nD) : Pr F PUnit := do
  sendOp (zR false) (2 : Fin 3) dA
  sendOp (zR true) (2 : Fin 3) dB
  let ya ← loadPlane false (zoff false c 2) (zoff_inb false c 2)
  let yb ← loadPlane true (zoff true c 2) (zoff_inb true c 2)
  let fa ← lastOp true false (2 : Fin 3) ya
  let fb ← lastOp true true (2 : Fin 3) yb
  sentOp (zR false) (2 : Fin 3)
  sentOp (zR true) (2 : Fin 3)
  storeOut S64x2048.size h_S64x2048 (k0_off9 c) (k0_off9_inb c) (k0_pay43 fa fb)
  let _ : Vec F S64x2048 .bf16 ← Prog.lift (.load ownM (Rect.unit (s := S64x2048) ![0, 0] S64x2048.size
    inb_S64x2048_S64x2048_0_0).toLoadRect (View.loadsAt_vmem h_S64x2048))
  Prog.lift (.store ownM (Rect.unit (s := S64x2048) ![0, 0] S64x2048.size inb_S64x2048_S64x2048_0_0) (k0_pay44 fa fb) Finset.univ
    (View.stores_vmem h_S64x2048 ((Memref.isWhole_whole _ : ownM.IsWhole).storeExact_slice rfl _ packedbf16_S64x2048_S64x2048_0_0)
      (fun _ => rfl)) (.inl rfl))

/-- Copy a half of the own block to where its column gather sends from. -/
def ownHalf (b : Bool) (off : Fin 2 → Nat) (h : ∀ a, off a + S64x1024.size a ≤ S64x2048.size a) : Pr F PUnit := do
  let v : Vec F S64x1024 .bf16 ← Prog.lift (.load ownM (Rect.unit (s := S64x2048) off S64x1024.size h).toLoadRect
    (View.loadsAt_vmem h_S64x1024))
  let _ : Vec F S64x1024 .bf16 ← Prog.lift (.load (gsrc true b) (Rect.unit (s := S64x1024) ![0, 0] S64x1024.size
    inb_S64x1024_S64x1024_0_0).toLoadRect (View.loadsAt_vmem h_S64x1024))
  Prog.lift (.store (gsrc true b) (Rect.unit (s := S64x1024) ![0, 0] S64x1024.size inb_S64x1024_S64x1024_0_0)
    (shapeCast S64x1024 v shapeCasts_S64x1024_S64x1024) Finset.univ
    (View.stores_vmem h_S64x1024 ((gsrc_whole true b).storeExact_slice rfl _ packedbf16_S64x1024_S64x1024_0_0) (fun _ => rfl)) (.inl rfl))
/-- Copy it on into its place of the plane gather's source. -/
def ownPlane (c : Dev nD) (b : Bool) : Pr F PUnit := do
  let v : Vec F S64x1024 .bf16 ← Prog.lift (.load (gsrc true b) (Rect.unit (s := S64x1024) ![0, 0] S64x1024.size
    inb_S64x1024_S64x1024_0_0).toLoadRect (View.loadsAt_vmem h_S64x1024))
  storeGsrc b (k0_off10 c) (k0_off10_inb c) (k0_off10_packedbf16 c) v

/-- The place in the result of what step `h` of a column gather brings. -/
def zout (b : Bool) (c : Dev nD) (h : Fin 3) : Fin 2 → Nat :=
  bif b then k0_off13 c (BitVec.ofNat 32 h.val) else k0_off11 c (BitVec.ofNat 32 h.val)
theorem zout_inb (b : Bool) (c : Dev nD) (h : Fin 3) : ∀ a, zout b c h a + S64x1024.size a ≤ S2048x2048.size a := by
  cases b
  · exact k0_off11_inb c h
  · exact k0_off13_inb c h
/-- Its place in the source of the plane gather. -/
def zgsrc (b : Bool) (c : Dev nD) (h : Fin 3) : Fin 2 → Nat :=
  bif b then k0_off14 c (BitVec.ofNat 32 h.val) else k0_off12 c (BitVec.ofNat 32 h.val)
theorem zgsrc_inb (b : Bool) (c : Dev nD) (h : Fin 3) : ∀ a, zgsrc b c h a + S64x1024.size a ≤ S256x1024.size a := by
  cases b
  · exact k0_off12_inb c h
  · exact k0_off14_inb c h
theorem zgsrc_packed (b : Bool) (c : Dev nD) (h : Fin 3) :
    (Rect.unit (s := S256x1024) (zgsrc b c h) S64x1024.size (zgsrc_inb b c h)).PackedRows (EltTy.packing .bf16) := by
  cases b
  · exact k0_off12_packedbf16 c h
  · exact k0_off14_packedbf16 c h
/-- The place in the result of what step `h` of a plane gather brings. -/
def pout (b : Bool) (c : Dev nD) (h : Fin 7) : Fin 2 → Nat :=
  bif b then k0_off16 c (BitVec.ofNat 32 h.val) else k0_off15 c (BitVec.ofNat 32 h.val)
theorem pout_inb (b : Bool) (c : Dev nD) (h : Fin 7) : ∀ a, pout b c h a + S256x1024.size a ≤ S2048x2048.size a := by
  cases b
  · exact k0_off15_inb c h
  · exact k0_off16_inb c h

/-- One direction of a column gather's step, after its send. -/
def colTake (c : Dev nD) (b : Bool) (h : Fin 3) : Pr F PUnit := do
  recvOp (zG b) h
  let v ← loadSlot (zG b) h
  storeOut S64x1024.size h_S64x1024 (zout b c h) (zout_inb b c h) (up (unslot true v))
  storeGsrc b (zgsrc b c h) (zgsrc_inb b c h) (zgsrc_packed b c h) (unslot true v)
/-- A step of the column gather. -/
def colGather (c : Dev nD) (h : Fin 3) (dA dB : Dev nD) : Pr F PUnit := do
  sendOp (zG false) h dA
  sendOp (zG true) h dB
  colTake c false h
  colTake c true h
  sentOp (zG false) h
  sentOp (zG true) h
/-- One direction of a plane gather's step, after its send. -/
def planeTake (c : Dev nD) (b : Bool) (h : Fin 7) : Pr F PUnit := do
  recvOp (pG b) h
  let v ← loadSlot (pG b) h
  storeOut S256x1024.size h_S256x1024 (pout b c h) (pout_inb b c h) (up (unslot false v))
/-- A step of the plane gather. -/
def planeGather (c : Dev nD) (h : Fin 7) (dA dB : Dev nD) : Pr F PUnit := do
  sendOp (pG false) h dA
  sendOp (pG true) h dB
  planeTake c false h
  planeTake c true h
  sentOp (pG false) h
  sentOp (pG true) h

/-- The handshake: signal the four neighbours and wait for all of them. -/
def handshake (c : Dev nD) : Pr F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semWaitWord barS 4#32

def loadW (off : Fin 2 → Nat) (h : ∀ a, off a + S64x1024.size a ≤ S64x2048.size a) : Pr F (FVec F S64x1024 .bf16) := do
  let v : Vec F S64x1024 .bf16 ← Prog.lift (.load wM (Rect.unit (s := S64x2048) off S64x1024.size h).toLoadRect
    (View.loadsAt_vmem h_S64x1024))
  pure (shapeCast S64x1024 v shapeCasts_S64x1024_S64x1024)

/-- The first partial sum of a direction, into its staging slot. -/
def seedX (b : Bool) (w : FVec F S64x1024 .bf16) (off : Fin 2 → Nat) (h : ∀ a, off a + S256x64.size a ≤ S2048x64.size a) : Pr F PUnit := do
  let x ← loadX off h
  stageOp false b 0 (down (xdot w x))
def seedZ (b : Bool) (off : Fin 2 → Nat) (h : ∀ a, off a + S64x1024.size a ≤ S256x1024.size a) : Pr F PUnit := do
  let y ← loadPlane b off h
  stageOp true b 0 (down y)

/-- The kernel. -/
def spine : Pr F PUnit := do
  let c : Dev nD ← Prog.lift .deviceId
  handshake c
  let wa ← loadW ![0, 0] inb_S64x2048_S64x1024_0_0
  let wb ← loadW ![0, 1024] inb_S64x2048_S64x1024_0_1024
  seedX false wa (k0_off1 c) (k0_off1_inb c)
  seedX true wb (k0_off2 c) (k0_off2_inb c)
  planeStep c 0 ⟨k0_dev5 c, k0_dev5_lt c⟩ ⟨k0_dev6 c, k0_dev6_lt c⟩ (fun b => bif b then wb else wa)
  planeStep c 1 ⟨k0_dev7 c, k0_dev7_lt c⟩ ⟨k0_dev8 c, k0_dev8_lt c⟩ (fun b => bif b then wb else wa)
  planeStep c 2 ⟨k0_dev9 c, k0_dev9_lt c⟩ ⟨k0_dev10 c, k0_dev10_lt c⟩ (fun b => bif b then wb else wa)
  planeStep c 3 ⟨k0_dev11 c, k0_dev11_lt c⟩ ⟨k0_dev12 c, k0_dev12_lt c⟩ (fun b => bif b then wb else wa)
  planeStep c 4 ⟨k0_dev13 c, k0_dev13_lt c⟩ ⟨k0_dev14 c, k0_dev14_lt c⟩ (fun b => bif b then wb else wa)
  planeStep c 5 ⟨k0_dev15 c, k0_dev15_lt c⟩ ⟨k0_dev16 c, k0_dev16_lt c⟩ (fun b => bif b then wb else wa)
  planeLast c ⟨k0_dev17 c, k0_dev17_lt c⟩ ⟨k0_dev18 c, k0_dev18_lt c⟩ (fun b => bif b then wb else wa)
  seedZ false (k0_off5 c) (k0_off5_inb c)
  seedZ true (k0_off6 c) (k0_off6_inb c)
  colStep c 0 ⟨k0_dev19 c, k0_dev19_lt c⟩ ⟨k0_dev20 c, k0_dev20_lt c⟩
  colStep c 1 ⟨k0_dev21 c, k0_dev21_lt c⟩ ⟨k0_dev22 c, k0_dev22_lt c⟩
  colLast c ⟨k0_dev23 c, k0_dev23_lt c⟩ ⟨k0_dev24 c, k0_dev24_lt c⟩
  ownHalf false ![0, 0] inb_S64x2048_S64x1024_0_0
  ownHalf true ![0, 1024] inb_S64x2048_S64x1024_0_1024
  ownPlane c false
  ownPlane c true
  colGather c 0 ⟨k0_dev25 c, k0_dev25_lt c⟩ ⟨k0_dev26 c, k0_dev26_lt c⟩
  colGather c 1 ⟨k0_dev27 c, k0_dev27_lt c⟩ ⟨k0_dev28 c, k0_dev28_lt c⟩
  colGather c 2 ⟨k0_dev29 c, k0_dev29_lt c⟩ ⟨k0_dev30 c, k0_dev30_lt c⟩
  planeGather c 0 ⟨k0_dev31 c, k0_dev31_lt c⟩ ⟨k0_dev32 c, k0_dev32_lt c⟩
  planeGather c 1 ⟨k0_dev33 c, k0_dev33_lt c⟩ ⟨k0_dev34 c, k0_dev34_lt c⟩
  planeGather c 2 ⟨k0_dev35 c, k0_dev35_lt c⟩ ⟨k0_dev36 c, k0_dev36_lt c⟩
  planeGather c 3 ⟨k0_dev37 c, k0_dev37_lt c⟩ ⟨k0_dev38 c, k0_dev38_lt c⟩
  planeGather c 4 ⟨k0_dev39 c, k0_dev39_lt c⟩ ⟨k0_dev40 c, k0_dev40_lt c⟩
  planeGather c 5 ⟨k0_dev41 c, k0_dev41_lt c⟩ ⟨k0_dev42 c, k0_dev42_lt c⟩
  planeGather c 6 ⟨k0_dev43 c, k0_dev43_lt c⟩ ⟨k0_dev44 c, k0_dev44_lt c⟩

end Cert.KernelIdeal.Ring

end
-- ==== Proof.Mesh.lean ====
/-
# Where the devices stand

Thirty-two devices stand in four planes of eight. Inside a plane they form a ring, walked by `pos`; the
plane's number is `lay`, and the four devices at one place of the four planes form a ring too. `fwd` and
`bwd` are the next and the previous device of a ring. The printed device numbers and row offsets are these.
-/
module

public import proofs.«01_k».proof.Proof.Spine

@[expose] public section

set_option maxRecDepth 65536

noncomputable section

namespace Cert.KernelIdeal.Ring

open Cert.KernelIdeal Cert.KernelIdeal.Gen
open Idealize.ShloMosaic Idealize.ShloMosaic.TcCoe

/-- The place of a device in the ring of its plane. -/
def pos (c : Dev nD) : Fin 8 := (![0, 7, 6, 1, 2, 5, 4, 3] : Fin 8 → Fin 8) ⟨c.val % 8, Nat.mod_lt _ (by decide)⟩
/-- The plane of a device. -/
def lay (c : Dev nD) : Fin 4 := ⟨c.val / 8, by have := c.isLt; change c.val < 32 at this; omega⟩
/-- The device at a place of a plane. -/
def devAt (p : Fin 8) (z : Fin 4) : Dev nD :=
  ⟨8 * z.val + ((![0, 3, 4, 7, 6, 5, 2, 1] : Fin 8 → Fin 8) p).val, by
    have := z.isLt; have := ((![0, 3, 4, 7, 6, 5, 2, 1] : Fin 8 → Fin 8) p).isLt; change _ < 32; omega⟩

/-- The next device of a ring, and the previous one. -/
def fwd (z : Bool) (c : Dev nD) : Dev nD := bif z then devAt (pos c) (lay c + 1) else devAt (pos c + 1) (lay c)
def bwd (z : Bool) (c : Dev nD) : Dev nD := bif z then devAt (pos c) (lay c - 1) else devAt (pos c - 1) (lay c)

/-- Whom a channel sends to, and whom it hears from. -/
def peer (z b : Bool) (c : Dev nD) : Dev nD := bif b then bwd z c else fwd z c
def prev (z b : Bool) (c : Dev nD) : Dev nD := bif b then fwd z c else bwd z c

theorem devAt_pos_lay : ∀ c, devAt (pos c) (lay c) = c := by decide +kernel
theorem pos_devAt : ∀ p z, pos (devAt p z) = p := by decide +kernel
theorem lay_devAt : ∀ p z, lay (devAt p z) = z := by decide +kernel
theorem prev_peer : ∀ z b c, prev z b (peer z b c) = c := by decide +kernel
theorem peer_prev : ∀ z b c, peer z b (prev z b c) = c := by decide +kernel

/-- A channel direction's ring as a permutation of the devices. -/
def turn (z b : Bool) : Dev nD ≃ Dev nD := ⟨peer z b, prev z b, prev_peer z b, peer_prev z b⟩

/-- The number of the chunk a direction of ring `z` handles at step `t` on device `c`: the chunk whose owner is
    `t + 1` steps against the direction. -/
def ix (z b : Bool) (t : ℕ) (c : Dev nD) : ℕ :=
  bif z then ((lay c).val + bif b then 1 + t else 3 - t) % 4 else ((pos c).val + bif b then 1 + t else 7 - t) % 8

/-! ## The printed device numbers -/

theorem devP_false : ∀ c : Dev nD, ∀ n ∈ [k0_dev5 c, k0_dev7 c, k0_dev9 c, k0_dev11 c, k0_dev13 c, k0_dev15 c, k0_dev17 c, k0_dev31 c,
    k0_dev33 c, k0_dev35 c, k0_dev37 c, k0_dev39 c, k0_dev41 c, k0_dev43 c, k0_dev1 c], n = (peer false false c).val := by decide +kernel
theorem devP_true : ∀ c : Dev nD, ∀ n ∈ [k0_dev6 c, k0_dev8 c, k0_dev10 c, k0_dev12 c, k0_dev14 c, k0_dev16 c, k0_dev18 c, k0_dev32 c,
    k0_dev34 c, k0_dev36 c, k0_dev38 c, k0_dev40 c, k0_dev42 c, k0_dev44 c, k0_dev2 c], n = (peer false true c).val := by decide +kernel
theorem devZ_false : ∀ c : Dev nD, ∀ n ∈ [k0_dev19 c, k0_dev21 c, k0_dev23 c, k0_dev25 c, k0_dev27 c, k0_dev29 c, k0_dev3 c],
    n = (peer true false c).val := by decide +kernel
theorem devZ_true : ∀ c : Dev nD, ∀ n ∈ [k0_dev20 c, k0_dev22 c, k0_dev24 c, k0_dev26 c, k0_dev28 c, k0_dev30 c, k0_dev4 c],
    n = (peer true true c).val := by decide +kernel

/-! ## The printed offsets -/

theorem off1_eq : ∀ c, k0_off1 c = ![256 * ix false false 0 c, 0] := by decide +kernel
theorem off2_eq : ∀ c, k0_off2 c = ![256 * ix false true 0 c, 0] := by decide +kernel
theorem xoff_eq : ∀ b c t, xoff b c t = ![256 * ix false b (t.val + 1) c, 0] := by decide +kernel
theorem off5_eq : ∀ c, k0_off5 c = ![64 * ix true false 0 c, 0] := by decide +kernel
theorem off6_eq : ∀ c, k0_off6 c = ![64 * ix true true 0 c, 0] := by decide +kernel
theorem zoff_eq : ∀ b c t, zoff b c t = ![64 * ix true b (t.val + 1) c, 0] := by decide +kernel
theorem off9_eq : ∀ c, k0_off9 c = ![256 * (pos c).val + 64 * (lay c).val, 0] := by decide +kernel
theorem off10_eq : ∀ c, k0_off10 c = ![64 * (lay c).val, 0] := by decide +kernel
theorem zout_eq : ∀ b c h, zout b c h = ![256 * (pos c).val + 64 * ix true b h.val c, bif b then 1024 else 0] := by decide +kernel
theorem zgsrc_eq : ∀ b c h, zgsrc b c h = ![64 * ix true b h.val c, 0] := by decide +kernel
theorem pout_eq : ∀ b c h, pout b c h = ![256 * ix false b h.val c, bif b then 1024 else 0] := by decide +kernel

end Cert.KernelIdeal.Ring

end
-- ==== Proof.Values.lean ====
/-
# What travels

The contents of every transfer, as functions of what the devices hold at launch: the running sums of the two
reduces (`acc`), a device's finished block (`blk`, its rounded copy `half`), the blocks the gathers pass on
(`gval`), and the whole result as a device ends up with it (`target`).
-/
module

public import proofs.«01_k».proof.Proof.Mesh

@[expose] public section

set_option maxRecDepth 65536

noncomputable section

namespace Cert.KernelIdeal.Ring

open Cert.KernelIdeal Cert.KernelIdeal.Gen
open Idealize.ShloMosaic Idealize.ShloMosaic.TcCoe

variable {F : FTy → Type} [FloatOps F]

theorem ix_lt (z b : Bool) (t : ℕ) (c : Dev nD) : ix z b t c < lenZ z + 1 := by
  cases z <;> exact Nat.mod_lt _ (by decide)

/-- The part of `X` in the rectangle `r`. -/
abbrev sub {s : Shape} {α : Type} (r : Rect s) (X : s.Idx → α) : r.shape.Idx → α := fun j => X (r.emb j)

theorem inb_rows {n h R w : ℕ} (hn : h * n + h ≤ R) :
    ∀ a, (![h * n, 0] : Fin 2 → Nat) a + (![h, w] : Fin 2 → Nat) a ≤ (⟨2, ![R, w]⟩ : Shape).size a := by
  intro a
  fin_cases a
  · exact hn
  · show 0 + w ≤ w; omega

/-- Rows `256 n …` of `x`. -/
abbrev xR (n : ℕ) (h : n < 8) : Rect S2048x64 := Rect.unit (s := S2048x64) ![256 * n, 0] S256x64.size (inb_rows (R := 2048) (w := 64) (by omega))
/-- Rows `64 n …` of a plane total. -/
abbrev zRect (n : ℕ) (h : n < 4) : Rect S256x1024 := Rect.unit (s := S256x1024) ![64 * n, 0] S64x1024.size (inb_rows (R := 256) (w := 1024) (by omega))

theorem half_inb (b : Bool) : ∀ a, (![0, bif b then 1024 else 0] : Fin 2 → Nat) a + S64x1024.size a ≤ S64x2048.size a := by
  cases b
  · exact inb_S64x2048_S64x1024_0_0
  · exact inb_S64x2048_S64x1024_0_1024
/-- Half `b` of sixty-four full rows. -/
abbrev halfR (b : Bool) : Rect S64x2048 := Rect.unit (s := S64x2048) ![0, bif b then 1024 else 0] S64x1024.size (half_inb b)

/-- The running sum of a ring, started and continued with the chunks `part n c`. -/
def acc (z b : Bool) (part : (n : ℕ) → n < lenZ z + 1 → Dev nD → FVec F (shp z) .f32) : ℕ → Dev nD → FVec F (shp z) .f32
  | 0, c => part (ix z b 0 c) (ix_lt z b 0 c) c
  | t + 1, c => addf (part (ix z b (t + 1) c) (ix_lt z b (t + 1) c) c) (up (down (acc z b part t (prev z b c))))

section Data
variable (X : Dev nD → Vec F S2048x64 .bf16) (W : Dev nD → Vec F S64x2048 .bf16)

/-- Half `b` of a device's rows of `w`. -/
def wv (b : Bool) (c : Dev nD) : FVec F S64x1024 .bf16 := shapeCast S64x1024 (sub (halfR b) (W c)) shapeCasts_S64x1024_S64x1024

/-- A device's own part of chunk `n` of the plane ring. -/
def partP (b : Bool) (n : ℕ) (h : n < lenZ false + 1) (c : Dev nD) : FVec F (shp false) .f32 := xdot (wv W b c) (sub (xR n h) (X c))
/-- The plane ring's total at its owner. -/
def totP (b : Bool) : Dev nD → FVec F (shp false) .f32 := acc false b (partP X W b) 7
/-- A device's own part of chunk `n` of the column ring. -/
def partZ (b : Bool) (n : ℕ) (h : n < lenZ true + 1) (c : Dev nD) : FVec F (shp true) .f32 := sub (zRect n h) (totP X W b c)
/-- The column ring's total at its owner. -/
def totZ (b : Bool) : Dev nD → FVec F (shp true) .f32 := acc true b (partZ X W b) 3

/-- A device's finished block of the result, and its rounded copy. -/
def blk (c : Dev nD) : FVec F S64x2048 .f32 := k0_pay43 (totZ X W false c) (totZ X W true c)
def blkd (c : Dev nD) : FVec F S64x2048 .bf16 := k0_pay44 (totZ X W false c) (totZ X W true c)

/-- Half `b` of the rounded block. -/
def half (b : Bool) (c : Dev nD) : FVec F S64x1024 .bf16 := shapeCast S64x1024 (sub (halfR b) (blkd X W c)) shapeCasts_S64x1024_S64x1024

/-- The row of the devices' blocks a row of the plane's four blocks lies in, and its place there. -/
def rowPlane (i : Fin 256) : Fin 4 := ⟨i.val / 64, by omega⟩
def rowIn (i : ℕ) : Fin 64 := ⟨i % 64, Nat.mod_lt _ (by decide)⟩

/-- The four blocks, one from each plane, that stand at device `c`'s place. -/
def column (b : Bool) (c : Dev nD) : FVec F S256x1024 .bf16 := fun i =>
  half X W b (devAt (pos c) (rowPlane (i 0))) (fun | 0 => rowIn (i 0).val | 1 => i 1)

/-- What a gather passes on from device `c`. -/
def gval : (z b : Bool) → Dev nD → FVec F (shp z) .bf16
  | true, b, c => half X W b c
  | false, b, c => column X W b c

/-- What transfer `t` of a channel takes from device `c`. -/
def sentVal : (k : Ch) → ℕ → Dev nD → FVec F (shp k.z) .bf16
  | ⟨false, false, b⟩, t, c => down (acc false b (partP X W b) t c)
  | ⟨false, true, b⟩, t, c => down (acc true b (partZ X W b) t c)
  | ⟨true, z, b⟩, t, c => gval X W z b ((prev z b)^[t] c)
/-- What it brings to device `c`. -/
def recvVal (k : Ch) (t : ℕ) (c : Dev nD) : FVec F (shp k.z) .bf16 := sentVal X W k t (prev k.z k.b c)

/-- The device a row of the result belongs to. -/
def owner (i : Fin 2048) : Dev nD := devAt ⟨i.val / 256, by omega⟩ ⟨i.val % 256 / 64, by omega⟩
/-- The half a column belongs to, and its place there. -/
def side (j : Fin 2048) : Bool := decide (1024 ≤ j.val)
def colIn (j : ℕ) : Fin 1024 := ⟨j % 1024, Nat.mod_lt _ (by decide)⟩

/-- The result as device `c` holds it in the end: its own block as computed, the others' as they came, rounded. -/
def target (c : Dev nD) : FVec F S2048x2048 .f32 := fun i =>
  if owner (i 0) = c then blk X W c (fun | 0 => rowIn (i 0).val | 1 => i 1)
  else up (half X W (side (i 1)) (owner (i 0))) (fun | 0 => rowIn (i 0).val | 1 => colIn (i 1).val)

end Data

/-! ## Where the pieces lie -/

theorem outOwn_inb (c : Dev nD) : ∀ a, (![256 * (pos c).val + 64 * (lay c).val, 0] : Fin 2 → Nat) a + S64x2048.size a ≤ S2048x2048.size a :=
  off9_eq c ▸ k0_off9_inb c

end Cert.KernelIdeal.Ring

end
-- ==== Proof.Sched.lean ====
/-
# The protocol

Every device has a barrier cell and, for each of the forty transfers, a send cell and a receive cell. Each cell
has one round. A barrier cell has one duty per neighbour, paid by that neighbour's signal; with it come the
neighbour's landing slots this device will fill. A send cell's duty is paid when the transfer has read its
source, and gives the source back; a receive cell's when the slot has been filled, and gives the slot at its
new contents. A transfer's number `ord` gives the order in which a device issues them; a device waits only for
transfers numbered below everything it still owes.
-/
module

public import proofs.«01_k».proof.Proof.Values
public import Idealize.ShloMosaic.Lib.Pipeline.Launch
public import Idealize.ShloMosaic.Lib.Pipeline.Kit
public import Idealize.ShloMosaic.Lib.Ring

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The names of a cell's duties: the neighbour that pays (ring, direction). -/
abbrev Du : Type := Bool × Bool
abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Transfers and cells -/

/-- A transfer: a channel and its step. -/
abbrev Lk : Type := Σ k : Ch, Fin k.len

/-- The first number of a channel pair's transfers. -/
def base (k : Ch) : ℕ := bif k.ag then (bif k.z then 20 else 26) else (bif k.z then 14 else 0)
/-- The place of a transfer in the order a device issues them. -/
def ord (l : Lk) : ℕ := base l.1 + 2 * l.2.val + bif l.1.b then 1 else 0

theorem ord_inj : ∀ l l' : Lk, ord l = ord l' → l = l' := by decide +kernel
theorem ord_lt : ∀ l : Lk, ord l < 40 := by decide +kernel

/-- A device's cells: the barrier, and each transfer's send cell (`false`) and receive cell (`true`). -/
abbrev CI : Type := Option (Bool × Lk)

def csem : CI → SemLoc sig
  | none => .reg barS
  | some (false, l) => .dma (ssem l.1 l.2)
  | some (true, l) => .dma (rsem l.1 l.2)

theorem csem_inj : Function.Injective csem := by
  have h : ∀ i j, csem i = csem j → i = j := by decide +kernel
  exact fun i j => h i j

/-- The cell a semaphore belongs to. -/
def ciOf (s : SemLoc sig) : Option CI := by
  classical exact if h : ∃ i, csem i = s then some h.choose else none

theorem ciOf_csem (i : CI) : ciOf (csem i) = some i := by
  unfold ciOf
  rw [dif_pos ⟨i, rfl⟩]
  exact congrArg some (csem_inj (Exists.choose_spec (⟨i, rfl⟩ : ∃ j, csem j = csem i)))

abbrev kcell (ci : Dev nD × CI) : GSem nD τ sig := ((ci.1 : Thread nD τ), csem ci.2)
abbrev barCell (c : Dev nD) : GSem nD τ sig := kcell (c, none)
abbrev sendCell (c : Dev nD) (l : Lk) : GSem nD τ sig := kcell (c, some (false, l))
abbrev recvCell (c : Dev nD) (l : Lk) : GSem nD τ sig := kcell (c, some (true, l))

/-- The device a transfer goes to, and the one it comes from. -/
abbrev dst (l : Lk) (c : Dev nD) : Dev nD := peer l.1.z l.1.b c
abbrev org (l : Lk) (c : Dev nD) : Dev nD := prev l.1.z l.1.b c

/-- What a transfer pays. -/
abbrev Nl (l : Lk) : ℕ := (slotM l.1 l.2).view.dmaCredit
theorem Nl_pos (l : Lk) : 0 < Nl l := View.dmaCredit_pos _ (shp_pos l.1.z)
theorem src_credit (l : Lk) : (srcM l.1 l.2).view.dmaCredit = Nl l := rfl

/-! ## The schedule -/

section Data
variable (X : Dev nD → Vec F S2048x64 .bf16) (W : Dev nD → Vec F S64x2048 .bf16)

/-- What a neighbour's signal hands over: its landing slots for the transfers of that direction. -/
def barPay (z b : Bool) (c : Dev nD) : sProp 𝕄 :=
  bigSep Finset.univ fun a : Bool => bigSep Finset.univ fun t : Fin (lenZ z) =>
    iprop(∃ Y, ownsTc (peer z b c) (slotM ⟨a, z, b⟩ t) fullShare Y)
def sendPay (l : Lk) (c : Dev nD) : sProp 𝕄 := ownsTc c (srcM l.1 l.2) fullShare (sentVal X W l.1 l.2.val c)
def recvPay (l : Lk) (c : Dev nD) : sProp 𝕄 := ownsTc c (slotM l.1 l.2) fullShare (recvVal X W l.1 l.2.val c)

instance barPay_storable (z b : Bool) (c : Dev nD) : BI.Storable (upEmb : UEmb _ 𝕄) (barPay (F := F) z b c) := by
  unfold barPay ownsTc; infer_instance
instance sendPay_storable (l : Lk) (c : Dev nD) : BI.Storable (upEmb : UEmb _ 𝕄) (sendPay X W l c) := by unfold sendPay ownsTc; infer_instance
instance recvPay_storable (l : Lk) (c : Dev nD) : BI.Storable (upEmb : UEmb _ 𝕄) (recvPay X W l c) := by unfold recvPay ownsTc; infer_instance

def dutiesOf : Option CI → Finset Du
  | some none => Finset.univ
  | some (some _) => {(false, false)}
  | none => ∅
def amountOf : Option CI → ℕ
  | some (some (_, l)) => Nl l
  | _ => 1
def payOf (c : Dev nD) (d : Du) : Option CI → sProp 𝕄
  | some none => barPay d.1 d.2 c
  | some (some (false, l)) => sendPay X W l c
  | some (some (true, l)) => recvPay X W l c
  | none => iprop(emp)

def sched : Rounds.Schedule (GSem nD τ sig) Du 𝕄 where
  duties g r := if r = 0 ∧ g.1.2 = .tc then dutiesOf (ciOf g.2) else ∅
  unitless _ := False
  amount g _ _ := amountOf (ciOf g.2)
  payload g _ d := payOf X W g.1.1 d (ciOf g.2)
  amount_pos g _ _ _ := by
    rcases h : ciOf g.2 with _ | _ | ⟨b, l⟩
    · exact Nat.one_pos
    · exact Nat.one_pos
    · exact Nl_pos l

instance sched_payload_storable (g : GSem nD τ sig) (r : ℕ) (d : Du) :
    BI.Storable (upEmb : UEmb _ 𝕄) ((sched X W).payload g r d) := by
  show BI.Storable upEmb (payOf X W g.1.1 d (ciOf g.2))
  rcases ciOf g.2 with _ | _ | ⟨_ | _, l⟩ <;> unfold payOf <;> infer_instance

section Facts
variable (c : Dev nD) (l : Lk)

theorem duties_k (i : CI) : (sched X W).duties (kcell (c, i)) 0 = dutiesOf (some i) := by
  dsimp only [sched]; rw [if_pos ⟨rfl, rfl⟩, ciOf_csem]
theorem duties_later (g : GSem nD τ sig) : ∀ r, 1 ≤ r → (sched X W).duties g r = ∅ :=
  fun r hr => by dsimp only [sched]; rw [if_neg fun h => by omega]
theorem amount_k (i : CI) (d : Du) : (sched X W).amount (kcell (c, i)) 0 d = amountOf (some i) := by
  dsimp only [sched]; rw [ciOf_csem]
theorem payload_k (i : CI) (d : Du) : (sched X W).payload (kcell (c, i)) 0 d = payOf X W c d (some i) := by
  dsimp only [sched]; rw [ciOf_csem]

theorem expect_bar : (sched X W).expect (barCell c) 0 = 4 := by
  unfold Schedule.expect Schedule.amountOf
  rw [duties_k, Finset.sum_congr rfl fun d _ => amount_k X W c none d]
  rfl
theorem expect_xfer (a : Bool) : (sched X W).expect (kcell (c, some (a, l))) 0 = Nl l := by
  unfold Schedule.expect Schedule.amountOf
  rw [duties_k, show dutiesOf (some (some (a, l))) = {(false, false)} from rfl, Finset.sum_singleton, amount_k]; rfl

/-- What a transfer's cell hands out. -/
theorem rest_xfer (a : Bool) : bigSep ((sched X W).duties (kcell (c, some (a, l))) 0 \ ∅) (fun d => (sched X W).payload (kcell (c, some (a, l))) 0 d)
    = payOf X W c (false, false) (some (some (a, l))) := by
  rw [Finset.sdiff_empty, duties_k, show dutiesOf (some (some (a, l))) = {(false, false)} from rfl, bigSep_singleton, payload_k]
/-- What the barrier hands out: all four neighbours' slots. -/
theorem rest_bar : bigSep ((sched X W).duties (barCell c) 0 \ ∅) (fun d => (sched X W).payload (barCell c) 0 d)
    = bigSep Finset.univ fun d : Du => barPay d.1 d.2 c := by
  rw [Finset.sdiff_empty, duties_k]
  exact bigSep_congr fun d _ => payload_k X W c none d

end Facts
end Data

/-! ## What is owed, and the levels -/

/-- The credits of the transfers still to be issued, from number `n` on. -/
def owedFrom (c : Dev nD) (n : ℕ) : CellTallies nD τ sig Unit :=
  ∑ l ∈ Finset.univ.filter (fun l : Lk => n ≤ ord l), tallyAt (recvCell (dst l c) l) () (Nl l)

theorem filter_peel (l : Lk) : Finset.univ.filter (fun l' : Lk => ord l ≤ ord l')
    = insert l (Finset.univ.filter fun l' : Lk => ord l + 1 ≤ ord l') := by
  ext l'
  simp only [Finset.mem_filter, Finset.mem_univ, true_and, Finset.mem_insert]
  constructor
  · intro h
    rcases Nat.eq_or_lt_of_le h with h | h
    · exact Or.inl (ord_inj _ _ h.symm)
    · exact Or.inr h
  · rintro (rfl | h)
    · exact Nat.le_refl _
    · omega
theorem filter_peel_not (l : Lk) : l ∉ Finset.univ.filter fun l' : Lk => ord l + 1 ≤ ord l' := by
  rw [Finset.mem_filter]; intro h; have := h.2; omega

theorem owedFrom_peel (c : Dev nD) (l : Lk) : owedFrom c (ord l) = owedFrom c (ord l + 1) + tallyAt (recvCell (dst l c) l) () (Nl l) := by
  unfold owedFrom
  rw [filter_peel, Finset.sum_insert (filter_peel_not l), add_comm]

theorem owedFrom_end (c : Dev nD) : owedFrom c 40 = 0 := by
  unfold owedFrom
  rw [Finset.filter_false_of_mem fun l _ => by have := ord_lt l; omega, Finset.sum_empty]

theorem owedFrom_pos {c : Dev nD} {n : ℕ} {g : GSem nD τ sig} {u : Unit} (h : 0 < owedFrom c n g u) :
    ∃ l, n ≤ ord l ∧ g = recvCell (dst l c) l := by
  unfold owedFrom at h
  rw [Finset.sum_apply, Finsupp.finset_sum_apply] at h
  obtain ⟨l, hl, hpos⟩ := Finset.exists_ne_zero_of_sum_ne_zero (Nat.pos_iff_ne_zero.mp h)
  refine ⟨l, (Finset.mem_filter.mp hl).2, ?_⟩
  by_contra hn
  exact hpos (by rw [tallyAt_apply, if_neg fun h' => hn h'.1])

/-- A device signals its four neighbours: the plane ring's, then the column ring's; at the neighbour it is the
    one of the opposite direction. -/
abbrev barTo (z b : Bool) (c : Dev nD) : CellTallies nD τ sig Unit := tallyAt (barCell (peer z b c)) () 1

def O₃ (c : Dev nD) : CellTallies nD τ sig Unit := owedFrom c 0 + barTo true true c
def O₂ (c : Dev nD) : CellTallies nD τ sig Unit := O₃ c + barTo true false c
def O₁ (c : Dev nD) : CellTallies nD τ sig Unit := O₂ c + barTo false true c
def O₀ (c : Dev nD) : CellTallies nD τ sig Unit := O₁ c + barTo false false c

def L (g : GSem nD τ sig) : Finset Unit := if g.1.2 = .tc then {()} else ∅
/-- Staging and send cells lowest, then the barrier, then the receive cells in the order of the steps. -/
def levOf : Option CI → ℕ
  | some none => 1
  | some (some (true, l)) => ord l / 2 + 2
  | _ => 0
def lv (g : GSem nD τ sig) (_ : Unit) : ℕ := levOf (ciOf g.2)

theorem lv_k (c : Dev nD) (i : CI) : lv (kcell (c, i)) () = levOf (some i) := by unfold lv; rw [ciOf_csem]

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    (∃ l, g = recvCell (dst l c) l) ∨ ∃ d, g = barCell d := by
  by_contra hn
  rw [not_or, not_exists, not_exists] at hn
  have hb (z b) : barTo z b c g u = 0 := by
    unfold barTo; rw [tallyAt_apply, if_neg fun h' => hn.2 _ h'.1]
  have ho : owedFrom c 0 g u = 0 := by
    by_contra h0
    obtain ⟨l, -, hl⟩ := owedFrom_pos (Nat.pos_of_ne_zero h0)
    exact hn.1 l hl
  unfold O₀ O₁ O₂ O₃ at h
  simp only [Pi.add_apply, Finsupp.add_apply, hb, ho] at h
  exact Nat.lt_irrefl 0 h

/-- A wait on a cell of level `n` is allowed while everything owed is to receive cells above it. -/
theorem mayWait_owed (c : Dev nD) (sm : SemLoc sig) (n m : ℕ) (hs : levOf (ciOf sm) ≤ m) (hm : m < n / 2 + 2) :
    (levAts L lv : sProp 𝕄) ⊢ MayWait (c : Thread nD τ) sm () (owedFrom c n) :=
  MayOwe.of_cut (L := L) (lev := lv) m (fun p hp => by rw [Finset.mem_singleton.mp hp, L_tc]; exact Finset.mem_singleton_self _)
    (fun g u hg => by obtain ⟨l, -, rfl⟩ := owedFrom_pos hg; exact Finset.mem_singleton_self _)
    (fun p hp => by rw [Finset.mem_singleton.mp hp]; exact hs)
    (fun g u hg => by
      obtain ⟨l, hl, rfl⟩ := owedFrom_pos hg
      rw [show lv (recvCell (dst l c) l) u = ord l / 2 + 2 from lv_k _ _]
      have := Nat.div_le_div_right (c := 2) hl
      omega)

/-- A staging transfer may be waited for at any time. -/
theorem mayWait_stage (c : Dev nD) (q : DmaSem sig) (hq : levOf (ciOf (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨l, rfl⟩ | ⟨d, rfl⟩ <;> exact Finset.mem_singleton_self _)
      (fun p hp => by rw [Finset.mem_singleton.mp hp]; exact Nat.le_of_eq hq)
      (fun g u hg => by
        rcases O₀_pos hg with ⟨l, rfl⟩ | ⟨d, rfl⟩
        · rw [show lv (recvCell (dst l c) l) u = ord l / 2 + 2 from lv_k _ _]; omega
        · rw [show lv (barCell d) u = 1 from lv_k _ _]; decide)
  · rw [MayWait_zero]; iintro -; iempintro

end Cert.KernelIdeal.Ring

end
-- ==== Proof.Access.lean ====
/-
# Loads and stores of owned buffers

A load of a rectangle of an owned buffer reads the rectangle's part of its contents; a store replaces it. The
same for a slot of a buffer of several slots, owned by itself. A buffer that is being filled piece by piece is
held as `filled`: its contents agree with the ones it will have in the end wherever `D` says so.
-/
module

public import proofs.«01_k».proof.Proof.Sched

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What it takes for device `c` to run `p` and end in `Q`. -/
abbrev WP {α : Type} (c : Dev nD) (p : Pr F α) (Q : α → sProp 𝕄) : sProp 𝕄 :=
  wp frame (wpE (defs₀ (F := F)) 𝒱₀ (c : Thread nD τ) none) Set.univ p Q

/-- A device's buffer, whole, at given contents. -/
abbrev own (c : Dev nD) {sp : Space} {s : Shape} {e : EltTy} (m : Memref sig .tc sp s e) (Y : s.Idx → Elt F e) : sProp 𝕄 :=
  ownsTc c m fullShare Y
/-- At some contents. -/
abbrev some' (c : Dev nD) {sp : Space} {s : Shape} {e : EltTy} (m : Memref sig .tc sp s e) : sProp 𝕄 := iprop(∃ Y, own (F := F) c m Y)

section
variable (c : Dev nD) {sp : CoreSpace} {s : Shape} {e : EltTy} {m : Memref sig .tc sp s e}

theorem load_own {r : Rect s} {hl : m.view.LoadsAt r.toLoadRect} (Y : s.Idx → Elt F e) {Φ : (r.shape.Idx → Elt F e) → sProp 𝕄} :
    own c m Y ⊢ iprop((own c m Y -∗ Φ (sub r Y)) -∗ WP c (Prog.lift (.load m r.toLoadRect hl)) Φ) := by
  unfold own ownsTc owns
  iintro ⟨%f, %hf, H⟩ Hk
  iapply (wp_load_rect 𝒱₀ (c : Thread nD τ) none Set.univ (m := m) (r := r) (View.set_slice_subset _ _)) $$ H
  iintro H
  rw [show (m.access r).read (Elt F) f = sub r Y from by rw [← hf]; rfl, wp_ret]
  imodintro
  iapply Hk
  iexists f
  isplitr
  · ipureintro; exact hf
  · iexact H

theorem read_store (r : Rect s) (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    exact (View.read_slice_write_emb r f w (Finset.mem_univ i)).trans (Rect.overlay_emb r _ w i).symm
  · rw [Rect.overlay_of_not_mem _ _ _ hj]
    exact View.read_slice_write_of_not_mem r f w Finset.univ (by rwa [Rect.map_emb_univ])

theorem store_own {r : Rect s} {w : r.shape.Idx → Elt F e} {hx : (m.access r).Stores Finset.univ}
    {hm : Finset.univ = (Finset.univ : Finset r.shape.Idx) ∨ ∀ a, r.stride a = 1} (Y : s.Idx → Elt F e) {Φ : PUnit → sProp 𝕄} :
    own c m Y ⊢ iprop((own c m (r.overlay Y w) -∗ Φ ⟨⟩) -∗ WP c (Prog.lift (.store m r w Finset.univ hx hm)) Φ) := by
  unfold own ownsTc owns
  iintro ⟨%f, %hf, H⟩ Hk
  iapply (wp_store 𝒱₀ (c : Thread nD τ) none Set.univ (m := m) (r := r) (Mk := Finset.univ) (View.set_slice_subset _ _)) $$ H
  iintro H
  rw [wp_ret]
  imodintro
  iapply Hk
  iexists ((m.access r).write (Elt F) f w Finset.univ)
  isplitr
  · ipureintro; rw [read_store, hf]
  · iexact H

/-- A store over everything leaves what was stored. -/
theorem store_all {r : Rect s} {w : r.shape.Idx → Elt F e} {hx : (m.access r).Stores Finset.univ}
    {hm : Finset.univ = (Finset.univ : Finset r.shape.Idx) ∨ ∀ a, r.stride a = 1} (T : s.Idx → Elt F e)
    (hr : ∀ i, ∃ j, r.emb j = i) (hw : ∀ j, w j = T (r.emb j)) {Φ : PUnit → sProp 𝕄} :
    some' c m ⊢ iprop((own c m T -∗ Φ ⟨⟩) -∗ WP c (Prog.lift (.store m r w Finset.univ hx hm)) Φ) := by
  iintro ⟨%Y, H⟩ Hk
  iapply (store_own c Y) $$ H
  iintro H
  iapply Hk
  rw [show r.overlay Y w = T from funext fun i => by
    obtain ⟨j, rfl⟩ := hr i
    rw [Rect.overlay_emb, hw]]
  iexact H

/-! ## A buffer being filled -/

/-- The buffer agrees with `T` wherever `D` says. -/
def filled (c : Dev nD) (m : Memref sig .tc sp s e) (T : s.Idx → Elt F e) (D : s.Idx → Prop) : sProp 𝕄 :=
  iprop(∃ Y, ⌜∀ i, D i → Y i = T i⌝ ∗ own c m Y)

theorem filled_start (T : s.Idx → Elt F e) : some' c m ⊢ filled c m T (fun _ => False) := by
  unfold filled
  iintro ⟨%Y, H⟩
  iexists Y
  isplitr
  · ipureintro; exact fun _ h => h.elim
  · iexact H

theorem filled_done (T : s.Idx → Elt F e) (D : s.Idx → Prop) (h : ∀ i, D i) : filled c m T D ⊢ own c m T := by
  unfold filled
  iintro ⟨%Y, %hY, H⟩
  rw [show Y = T from funext fun i => hY i (h i)]
  iexact H

/-- What a load of a buffer being filled reads is not used. -/
theorem load_filled {r : Rect s} {hl : m.view.LoadsAt r.toLoadRect} (T : s.Idx → Elt F e) (D : s.Idx → Prop) {Φ : (r.shape.Idx → Elt F e) → sProp 𝕄} :
    filled c m T D ⊢ iprop((∀ v, filled c m T D -∗ Φ v) -∗ WP c (Prog.lift (.load m r.toLoadRect hl)) Φ) := by
  unfold filled
  iintro ⟨%Y, %hY, H⟩ Hk
  iapply (load_own c Y) $$ H
  iintro H
  iapply Hk
  iexists Y
  isplitr
  · ipureintro; exact hY
  · iexact H

theorem store_filled {r : Rect s} {w : r.shape.Idx → Elt F e} {hx : (m.access r).Stores Finset.univ}
    {hm : Finset.univ = (Finset.univ : Finset r.shape.Idx) ∨ ∀ a, r.stride a = 1} (T : s.Idx → Elt F e) (D D' : s.Idx → Prop)
    (hw : ∀ j, w j = T (r.emb j)) (hD : ∀ i, D' i → D i ∨ i ∈ r.set) {Φ : PUnit → sProp 𝕄} :
    filled c m T D ⊢ iprop((filled c m T D' -∗ Φ ⟨⟩) -∗ WP c (Prog.lift (.store m r w Finset.univ hx hm)) Φ) := by
  unfold filled
  iintro ⟨%Y, %hY, H⟩ Hk
  iapply (store_own c Y) $$ H
  iintro H
  iapply Hk
  iexists (r.overlay Y w)
  isplitr
  · ipureintro
    intro i hi
    by_cases hr : i ∈ r.set
    · obtain ⟨j, rfl⟩ := r.exists_idx_of_mem hr
      exact (Rect.overlay_emb r Y w j).trans (hw j)
    · rw [Rect.overlay_of_not_mem _ _ _ hr]
      exact hY i ((hD i hi).resolve_right hr)
  · iexact H

/-- A load whose value is dropped. -/
theorem load_some {r : Rect s} {hl : m.view.LoadsAt r.toLoadRect} {Φ : (r.shape.Idx → Elt F e) → sProp 𝕄} :
    some' c m ⊢ iprop((∀ v, some' c m -∗ Φ v) -∗ WP c (Prog.lift (.load m r.toLoadRect hl)) Φ) := by
  iintro ⟨%Y, H⟩ Hk
  iapply (load_own c Y) $$ H
  iintro H
  iapply Hk
  iexists Y
  iexact H

end

/-! ## Slots -/

section
variable (c : Dev nD) {n : ℕ} {z : Bool} {m : Memref sig .tc .vmem (bufShp n z) .bf16} (t : Fin n)

theorem toSlot_unslot (z : Bool) (v : Vec F (slotShp z) .bf16) : toSlot z (unslot z v) = v := by
  funext j
  show v (Shape.reshapeEquiv _ (Shape.reshapeEquiv _ j)) = v j
  congr 1
  exact Shape.reshapeEquiv_eq_of_rowMajor _ (by rw [Shape.rowMajor_reshapeEquiv])
theorem unslot_toSlot (z : Bool) (v : FVec F (shp z) .bf16) : unslot z (toSlot z v) = v := by
  funext j
  show v (Shape.reshapeEquiv _ (Shape.reshapeEquiv _ j)) = v j
  congr 1
  exact Shape.reshapeEquiv_eq_of_rowMajor _ (by rw [Shape.rowMajor_reshapeEquiv])

theorem slot_set : (slotOf m t).view.set = (m.access (slotR z t)).set := View.set_reshape _ _

theorem load_slot {hl : m.view.LoadsAt (slotR z t).toLoadRect} (Y : FVec F (shp z) .bf16) {Φ : Vec F (slotShp z) .bf16 → sProp 𝕄} :
    own c (slotOf m t) Y ⊢ iprop((∀ v, ⌜unslot z v = Y⌝ -∗ own c (slotOf m t) Y -∗ Φ v)
      -∗ WP c (Prog.lift (.load m (slotR z t).toLoadRect hl)) Φ) := by
  unfold own ownsTc owns
  iintro ⟨%f, %hf, H⟩ Hk
  iapply (wp_load_rect 𝒱₀ (c : Thread nD τ) none Set.univ (m := m) (r := slotR z t) (slot_set (m := m) t).symm.subset) $$ H
  iintro H
  rw [wp_ret]
  imodintro
  iapply Hk
  · ipureintro; rw [← hf]; rfl
  iexists f
  isplitr
  · ipureintro; exact hf
  · iexact H

theorem store_slot {hx : (m.access (slotR z t)).Stores Finset.univ}
    {hm : Finset.univ = (Finset.univ : Finset (slotR z t).shape.Idx) ∨ ∀ a, (slotR z t).stride a = 1} (v : FVec F (shp z) .bf16) {Φ : PUnit → sProp 𝕄} :
    some' c (slotOf m t) ⊢ iprop((own c (slotOf m t) v -∗ Φ ⟨⟩)
      -∗ WP c (Prog.lift (.store m (slotR z t) (toSlot z v) Finset.univ hx hm)) Φ) := by
  unfold some' own ownsTc owns
  iintro ⟨%Y, %f, %hf, H⟩ Hk
  iapply (wp_store 𝒱₀ (c : Thread nD τ) none Set.univ (m := m) (r := slotR z t) (Mk := Finset.univ) (slot_set (m := m) t).symm.subset) $$ H
  iintro H
  rw [wp_ret]
  imodintro
  iapply Hk
  iexists ((m.access (slotR z t)).write (Elt F) f (toSlot z v) Finset.univ)
  isplitr
  · ipureintro
    exact (congrArg (unslot z) (View.read_write_univ (v := m.access (slotR z t)) f (toSlot z v))).trans (unslot_toSlot z v)
  · iexact H

end

end Cert.KernelIdeal.Ring

end
-- ==== Proof.Ops.lean ====
/-
# The operations of a transfer

What a device holds for a transfer before issuing it (`linkRes`), what it then waits with, and the rules for
issuing, for the two waits, and for reading and filling slots.
-/
module

public import proofs.«01_k».proof.Proof.Access

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

/-- Run one program, then the next. -/
theorem wp_seq {α β : Type} (c : Dev nD) {p : Pr F α} {k : α → Pr F β} {Q : β → sProp 𝕄} :
    WP c p (fun a => WP c (k a) Q) ⊢ WP c (p >>= k) Q := Entails.of_eq (wp_bind _ _ _ _ _ _).symm

/-- Every cell's invariant, under the names `K`, and that its round 0 has begun; the levels. -/
def ctx (K : Dev nD × CI → ℕ) : sProp 𝕄 :=
  iprop((bigSep Finset.univ fun ci : Dev nD × CI => cellInv ER (sched X W) (K ci) (kcell ci))
    ∗ (bigSep Finset.univ fun ci : Dev nD × CI => reached ER (kcell ci) 0) ∗ levAts L lv)

instance ctx_persistent (K : Dev nD × CI → ℕ) : BI.Persistent (ctx X W K) := by unfold ctx; infer_instance

theorem ctx_inv (K : Dev nD × CI → ℕ) (ci : Dev nD × CI) : ctx X W K ⊢ cellInv ER (sched X W) (K ci) (kcell ci) := by
  have e : (bigSep Finset.univ fun ci : Dev nD × CI => cellInv ER (sched X W) (K ci) (kcell ci))
    ⊢ cellInv ER (sched X W) (K ci) (kcell ci) := bigSep_elim (Finset.mem_univ ci)
  unfold ctx; iintro ⟨H, -, -⟩
  iapply e; iexact H
theorem ctx_reached (K : Dev nD × CI → ℕ) (ci : Dev nD × CI) : ctx X W K ⊢ reached ER (kcell ci) 0 := by
  have e : (bigSep Finset.univ fun ci : Dev nD × CI => (reached ER (kcell ci) 0 : sProp 𝕄)) ⊢ reached ER (kcell ci) 0 :=
    bigSep_elim (Finset.mem_univ ci)
  unfold ctx; iintro ⟨-, H, -⟩
  iapply e; iexact H
theorem ctx_lev (K : Dev nD × CI → ℕ) : ctx X W K ⊢ levAts L lv := by
  unfold ctx; iintro ⟨-, -, H⟩; iexact H

/-- The only duty of a transfer's cell. -/
abbrev d₀ : Du := (false, false)

/-- What the device owes, whatever it has waited for. -/
def owing (c : Dev nD) (O : CellTallies nD τ sig Unit) : sProp 𝕄 := iprop(∃ Wt, owes (c : Thread nD τ) O Wt)

/-- The right to wait for a transfer's slot, and for its source. -/
def recvWait (l : Lk) (c : Dev nD) : sProp 𝕄 := iprop(atPos ER (recvCell c l) 0 ∅ 0 ∗ cred (tallyAt (recvCell c l) () (Nl l)))
def sentWait (l : Lk) (c : Dev nD) : sProp 𝕄 := iprop(atPos ER (sendCell c l) 0 ∅ 0 ∗ cred (tallyAt (sendCell c l) () (Nl l)))

/-- What a device holds for a transfer from the launch on, -/
def linkRes₀ (l : Lk) (c : Dev nD) : sProp 𝕄 :=
  iprop(dutyTok ER (sendCell c l) 0 d₀ ∗ dutyTok ER (recvCell (dst l c) l) 0 d₀ ∗ atPos ER (sendCell c l) 0 ∅ 0 ∗ recvWait l c)
/-- and from the handshake on. -/
def linkRes (l : Lk) (c : Dev nD) : sProp 𝕄 := iprop(linkRes₀ l c ∗ some' (dst l c) (slotM l.1 l.2))

/-- That for all transfers numbered from `n` on. -/
def links (c : Dev nD) (n : ℕ) : sProp 𝕄 := bigSep (Finset.univ.filter fun l : Lk => n ≤ ord l) fun l => linkRes l c

theorem links_peel (c : Dev nD) (l : Lk) : links (F := F) c (ord l) = iprop(linkRes l c ∗ links c (ord l + 1)) := by
  unfold links
  rw [filter_peel, bigSep_insert (filter_peel_not l)]
  rfl

theorem mem_k (c : Dev nD) (a : Bool) (l : Lk) : d₀ ∈ (sched X W).duties (kcell (c, some (a, l))) 0 := by
  rw [duties_k]; exact Finset.mem_singleton_self _

/-- What the two cells of a transfer hand out. -/
theorem rest_recv (c : Dev nD) (k : Ch) (t : Fin k.len) :
    bigSep ((sched X W).duties ((c : Thread nD τ), SemLoc.dma (rsem k t)) 0 \ ∅)
      (fun d => (sched X W).payload ((c : Thread nD τ), SemLoc.dma (rsem k t)) 0 d) = recvPay X W ⟨k, t⟩ c :=
  rest_xfer X W c ⟨k, t⟩ true
theorem rest_sent (c : Dev nD) (k : Ch) (t : Fin k.len) :
    bigSep ((sched X W).duties ((c : Thread nD τ), SemLoc.dma (ssem k t)) 0 \ ∅)
      (fun d => (sched X W).payload ((c : Thread nD τ), SemLoc.dma (ssem k t)) 0 d) = sendPay X W ⟨k, t⟩ c :=
  rest_xfer X W c ⟨k, t⟩ false

section Rules
variable (K : Dev nD × CI → ℕ) (c : Dev nD) (k : Ch) (t : Fin k.len)

/-- Issue transfer `t` of channel `k`: the source goes with it. -/
theorem send_op {d : Dev nD} (hd : d = peer k.z k.b c) {n : ℕ} (hn : n = ord ⟨k, t⟩) {Φ : PUnit → sProp 𝕄} :
    iprop(ctx X W K ∗ links c n ∗ owing c (owedFrom c n) ∗ sendPay X W ⟨k, t⟩ c)
      ⊢ iprop((links c (n + 1) ∗ owing c (owedFrom c (n + 1)) ∗ recvWait ⟨k, t⟩ c ∗ sentWait ⟨k, t⟩ c -∗ Φ ⟨⟩)
        -∗ WP c (sendOp k t d) Φ) := by
  subst hn hd
  rw [links_peel, owedFrom_peel]
  unfold linkRes linkRes₀ owing sendPay some' own ownsTc owns
  iintro ⟨#HC, ⟨⟨⟨HtS, HtR, HaS, HwR⟩, %Y, %fd, %hfd, Hdst⟩, Hl⟩, ⟨%Wt, HO⟩, %fs, %hfs, Hsrc⟩ Hk
  unfold sendOp
  iapply (Rounds.wp_send_pointsTo 𝒱₀ ER (sched X W) (c : Thread nD τ) none (c' := (dst ⟨k, t⟩ c : Thread nD τ))
    (κ₁ := K (c, some (false, ⟨k, t⟩))) (κ₂ := K (dst ⟨k, t⟩ c, some (true, ⟨k, t⟩)))
    (r₁ := 0) (r₂ := 0) (d₁ := d₀) (d₂ := d₀) (fd := fd)
    (mem_k X W c false ⟨k, t⟩) (mem_k X W (dst ⟨k, t⟩ c) true ⟨k, t⟩)
    () () (Nl ⟨k, t⟩) rfl (amount_k X W c (some (false, ⟨k, t⟩)) d₀) (amount_k X W (dst ⟨k, t⟩ c) (some (true, ⟨k, t⟩)) d₀)
    (owedFrom c (ord ⟨k, t⟩ + 1)) rfl (W := Wt)
    (by
      refine .trans ?_ (Entails.of_eq (payload_k X W c (some (false, ⟨k, t⟩)) d₀).symm)
      show _ ⊢ sendPay X W ⟨k, t⟩ c
      unfold sendPay ownsTc
      rw [← hfs]
      exact owns_intro _ _ _ _)
    (by
      refine .trans ?_ (Entails.of_eq (payload_k X W (dst ⟨k, t⟩ c) (some (true, ⟨k, t⟩)) d₀).symm)
      show _ ⊢ recvPay X W ⟨k, t⟩ (dst ⟨k, t⟩ c)
      unfold recvPay ownsTc recvVal
      rw [prev_peer, ← hfs]
      exact (owns_intro _ _ _ _).trans (Entails.of_eq (congrArg (owns _ _ _) (View.read_write_univ (v := (slotM k t).view) fd _))))) $$ [HtS HtR Hdst HO Hsrc]
  · isplitr; · iapply (ctx_inv X W K (c, some (false, ⟨k, t⟩))); iexact HC
    isplitr; · iapply (ctx_inv X W K (dst ⟨k, t⟩ c, some (true, ⟨k, t⟩))); iexact HC
    isplitl [Hsrc]; · iexact Hsrc
    isplitl [Hdst]; · iexact Hdst
    isplitl [HO]; · iexact HO
    isplitl [HtS]; · iexact HtS
    isplitr; · iapply (ctx_reached X W K (c, some (false, ⟨k, t⟩))); iexact HC
    isplitl [HtR]; · iexact HtR
    iapply (ctx_reached X W K (dst ⟨k, t⟩ c, some (true, ⟨k, t⟩))); iexact HC
  iintro ⟨HcS, HO⟩
  rw [wp_ret]
  imodintro
  iapply Hk
  isplitl [Hl]; · iexact Hl
  isplitl [HO]; · iexists Wt; iexact HO
  isplitl [HwR]; · iexact HwR
  unfold sentWait
  isplitl [HaS]; · iexact HaS
  iexact HcS

/-- Wait for the slot of transfer `t`: it comes filled. -/
theorem recv_op {n : ℕ} (hn : ord ⟨k, t⟩ / 2 + 2 < n / 2 + 2) {Φ : PUnit → sProp 𝕄} :
    iprop(ctx X W K ∗ owing c (owedFrom c n) ∗ recvWait ⟨k, t⟩ c)
      ⊢ iprop((owing c (owedFrom c n) ∗ atPos ER (recvCell c ⟨k, t⟩) 1 ∅ 0 ∗ recvPay X W ⟨k, t⟩ c -∗ Φ ⟨⟩)
        -∗ WP c (recvOp k t) Φ) := by
  unfold owing recvWait
  iintro ⟨#HC, ⟨%Wt, HO⟩, Ha, Hc⟩ Hk
  unfold recvOp
  iapply (Rounds.wp_wait_rest_token 𝒱₀ ER (sched X W) (c : Thread nD τ) none (κ := K (c, some (true, ⟨k, t⟩)))
      (wpE_waitDma2_eq 𝒱₀ (c : Thread nD τ) none Set.univ) (Set.mem_univ _) () (O := owedFrom c n) (W := Wt) (R := 0) (m := 0) (T := ∅)
      ((Nat.zero_add _).trans (expect_xfer X W c ⟨k, t⟩ true).symm)) $$ [Ha Hc HO]
  · isplitr; · iapply (ctx_inv X W K (c, some (true, ⟨k, t⟩))); iexact HC
    isplitl [Hc]; · iexact Hc
    isplitl [HO]; · iexact HO
    isplitr
    · iapply (mayWait_owed c (csem (some (true, ⟨k, t⟩))) n (ord ⟨k, t⟩ / 2 + 2) (by rw [ciOf_csem]; exact Nat.le_refl _) hn)
      iapply (ctx_lev X W K); iexact HC
    iexact Ha
  iintro ⟨HO, Ha, -, Hp⟩
  ihave Hp' := (Entails.of_eq (rest_recv X W c k t)) $$ Hp
  rw [wp_ret]
  imodintro
  iapply Hk
  isplitl [HO]; · iexists _; iexact HO
  isplitl [Ha]; · iexact Ha
  iexact Hp'

/-- Wait for the source of transfer `t`: it comes back. -/
theorem sent_op {n : ℕ} {Φ : PUnit → sProp 𝕄} :
    iprop(ctx X W K ∗ owing c (owedFrom c n) ∗ sentWait ⟨k, t⟩ c)
      ⊢ iprop((owing c (owedFrom c n) ∗ atPos ER (sendCell c ⟨k, t⟩) 1 ∅ 0 ∗ sendPay X W ⟨k, t⟩ c -∗ Φ ⟨⟩)
        -∗ WP c (sentOp k t) Φ) := by
  unfold owing sentWait
  rw [← src_credit]
  iintro ⟨#HC, ⟨%Wt, HO⟩, Ha, Hc⟩ Hk
  unfold sentOp
  iapply (Rounds.wp_wait_rest_token 𝒱₀ ER (sched X W) (c : Thread nD τ) none (κ := K (c, some (false, ⟨k, t⟩)))
      (wpE_waitDma2_eq 𝒱₀ (c : Thread nD τ) none Set.univ) (Set.mem_univ _) () (O := owedFrom c n) (W := Wt) (R := 0) (m := 0) (T := ∅)
      (k' := (srcM k t).view.dmaCredit)
      (by rw [Nat.zero_add]; exact (expect_xfer X W c ⟨k, t⟩ false).symm)) $$ [Ha Hc HO]
  · isplitr; · iapply (ctx_inv X W K (c, some (false, ⟨k, t⟩))); iexact HC
    isplitl [Hc]; · iexact Hc
    isplitl [HO]; · iexact HO
    isplitr
    · iapply (mayWait_owed c (csem (some (false, ⟨k, t⟩))) n 0 (by rw [ciOf_csem]; exact Nat.le_refl _) (by omega))
      iapply (ctx_lev X W K); iexact HC
    iexact Ha
  iintro ⟨HO, Ha, -, Hp⟩
  ihave Hp' := (Entails.of_eq (rest_sent X W c k t)) $$ Hp
  rw [wp_ret]
  imodintro
  iapply Hk
  isplitl [HO]; · iexists _; iexact HO
  isplitl [Ha]; · iexact Ha
  iexact Hp'

/-- Read a filled slot. -/
theorem loadSlot_op (Y : FVec F (shp k.z) .bf16) {Φ : Vec F (slotShp k.z) .bf16 → sProp 𝕄} :
    own c (slotM k t) Y ⊢ iprop((∀ v, ⌜unslot k.z v = Y⌝ -∗ own c (slotM k t) Y -∗ Φ v) -∗ WP c (loadSlot k t) Φ) :=
  load_slot c t Y

/-- Fill a staging slot. -/
theorem stage_op (z b : Bool) (p : Fin 2) (v : FVec F (shp z) .bf16) {Φ : PUnit → sProp 𝕄} :
    some' c (slotOf (sbuf z b) p) ⊢ iprop((own c (slotOf (sbuf z b) p) v -∗ Φ ⟨⟩) -∗ WP c (stageOp z b p v) Φ) := by
  unfold stageOp
  iintro ⟨%Y, H⟩ Hk
  iapply (wp_seq c)
  iapply (load_slot c p Y) $$ H
  iintro %v0 - H
  iapply (store_slot c p v) $$ [H]
  · iexists Y; iexact H
  iexact Hk

end Rules

end Cert.KernelIdeal.Ring

end
-- ==== Proof.Steps.lean ====
/-
# The steps of the reduces

Where a device stands between two transfers (`At`), what a ring's step does to it and to the ring's two staging
slots, and the rules for the steps of the plane reduce and of the column reduce.
-/
module

public import proofs.«01_k».proof.Proof.Ops

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

/-! ## Between two transfers -/

/-- The buffer a finished transfer leaves behind: a reduce its landing slot, a gather its source. -/
def left (l : Lk) (c : Dev nD) : sProp 𝕄 :=
  match l.1.ag with
  | false => some' c (slotM l.1 l.2)
  | true => some' c (srcM l.1 l.2)
/-- What a finished transfer leaves behind: both cells a round on, and that buffer. -/
def doneRes (l : Lk) (c : Dev nD) : sProp 𝕄 :=
  iprop(atPos ER (sendCell c l) 1 ∅ 0 ∗ atPos ER (recvCell c l) 1 ∅ 0 ∗ left l c)
/-- That of all transfers numbered below `n`. -/
def done (c : Dev nD) (n : ℕ) : sProp 𝕄 := bigSep (Finset.univ.filter fun l : Lk => ord l < n) fun l => doneRes l c

/-- A device that has finished the transfers numbered below `n` and issued none of the others. -/
def At (c : Dev nD) (n : ℕ) : sProp 𝕄 := iprop(links c n ∗ owing c (owedFrom c n) ∗ done c n)

theorem filter_push (l : Lk) : Finset.univ.filter (fun l' : Lk => ord l' < ord l + 1)
    = insert l (Finset.univ.filter fun l' : Lk => ord l' < ord l) := by
  ext l'
  simp only [Finset.mem_filter, Finset.mem_univ, true_and, Finset.mem_insert]
  constructor
  · intro h
    rcases Nat.eq_or_lt_of_le (Nat.lt_succ_iff.mp h) with h | h
    · exact Or.inl (ord_inj _ _ h)
    · exact Or.inr h
  · rintro (rfl | h)
    · exact Nat.lt_succ_self _
    · omega

theorem done_push (c : Dev nD) (l : Lk) : iprop(doneRes l c ∗ done c (ord l)) ⊢ done (F := F) c (ord l + 1) := by
  unfold done
  rw [filter_push, bigSep_insert (by rw [Finset.mem_filter]; exact fun h => Nat.lt_irrefl _ h.2)]
  exact Entails.of_eq rfl

theorem some_of (c : Dev nD) {sp : Space} {s : Shape} {e : EltTy} (m : Memref sig .tc sp s e) (Y : s.Idx → Elt F e) :
    own c m Y ⊢ some' c m := by
  iintro H; iexists Y; iexact H

theorem next_next (t : ℕ) : nextSlot (t + 1) = ⟨t % 2, Nat.mod_lt _ (by decide)⟩ := Fin.ext (by show (t + 1 + 1) % 2 = t % 2; omega)

/-! ## The two staging slots of a ring -/

/-- Before step `t`: the slot of its parity holds what it sends, the other is free. -/
def stg (z b : Bool) (t : ℕ) (c : Dev nD) : sProp 𝕄 :=
  iprop(own c (slotOf (sbuf z b) ⟨t % 2, Nat.mod_lt _ (by decide)⟩) (sentVal X W ⟨false, z, b⟩ t c) ∗ some' c (slotOf (sbuf z b) (nextSlot t)))

/-- A ring's summand and its running sum. -/
def part (z b : Bool) (n : ℕ) (h : n < lenZ z + 1) (c : Dev nD) : FVec F (shp z) .f32 :=
  match z, h with
  | false, h => partP X W b n h c
  | true, h => partZ X W b n h c

theorem sentVal_zero (z b : Bool) (c : Dev nD) : sentVal X W ⟨false, z, b⟩ 0 c = down (part X W z b (ix z b 0 c) (ix_lt z b 0 c) c) := by
  cases z <;> rfl
theorem sentVal_succ (z b : Bool) (t : ℕ) (c : Dev nD) : sentVal X W ⟨false, z, b⟩ (t + 1) c
    = down (addf (part X W z b (ix z b (t + 1) c) (ix_lt z b (t + 1) c) c) (up (recvVal X W ⟨false, z, b⟩ t c))) := by
  cases z <;> rfl

theorem wp_done {α : Type} (c : Dev nD) (v : α) {Φ : α → sProp 𝕄} : Φ v ⊢ WP c (pure v : Pr F α) Φ := by
  show Φ v ⊢ wp frame (wpE (defs₀ (F := F)) 𝒱₀ (c : Thread nD τ) none) Set.univ (Prog.ret v) Φ
  rw [wp_ret]
  iintro H
  imodintro
  iexact H

theorem stg_src (z b : Bool) (t : Fin (lenZ z)) (c : Dev nD) :
    own c (slotOf (sbuf z b) ⟨t.val % 2, Nat.mod_lt _ (by decide)⟩) (sentVal X W ⟨false, z, b⟩ t.val c) ⊢ sendPay X W ⟨⟨false, z, b⟩, t⟩ c :=
  Entails.of_eq rfl

section Rules
variable (K : Dev nD × CI → ℕ) (c : Dev nD) (a z b : Bool) (t : Fin (lenZ z))

/-- Issue the two transfers of a step. -/
theorem sends_op {dA dB : Dev nD} (hA : dA = peer z false c) (hB : dB = peer z true c) {n : ℕ} (hn : n = ord ⟨⟨a, z, false⟩, t⟩)
    {rest : Pr F PUnit} {Φ : PUnit → sProp 𝕄} :
    iprop(ctx X W K ∗ At c n ∗ sendPay X W ⟨⟨a, z, false⟩, t⟩ c ∗ sendPay X W ⟨⟨a, z, true⟩, t⟩ c)
      ⊢ iprop((owing c (owedFrom c (n + 2))
          ∗ (recvWait ⟨⟨a, z, false⟩, t⟩ c ∗ sentWait ⟨⟨a, z, false⟩, t⟩ c) ∗ (recvWait ⟨⟨a, z, true⟩, t⟩ c ∗ sentWait ⟨⟨a, z, true⟩, t⟩ c)
          ∗ links c (n + 2) ∗ done c n -∗ WP c rest Φ)
        -∗ WP c (sendOp ⟨a, z, false⟩ t dA >>= fun _ => sendOp ⟨a, z, true⟩ t dB >>= fun _ => rest) Φ) := by
  have hn' : n + 1 = ord ⟨⟨a, z, true⟩, t⟩ := by rw [hn]; rfl
  unfold At
  iintro ⟨#HC, ⟨Hl, HO, Hd⟩, HsA, HsB⟩ Hk
  iapply (wp_seq c)
  iapply (send_op X W K c ⟨a, z, false⟩ t hA hn) $$ [Hl HO HsA]
  · isplitr; · iexact HC
    isplitl [Hl]; · iexact Hl
    isplitl [HO]; · iexact HO
    iexact HsA
  iintro ⟨Hl, HO, HrA, HwA⟩
  iapply (wp_seq c)
  iapply (send_op X W K c ⟨a, z, true⟩ t hB hn') $$ [Hl HO HsB]
  · isplitr; · iexact HC
    isplitl [Hl]; · iexact Hl
    isplitl [HO]; · iexact HO
    iexact HsB
  iintro ⟨Hl, HO, HrB, HwB⟩
  iapply Hk
  isplitl [HO]; · iexact HO
  isplitl [HrA HwA]
  · isplitl [HrA]; · iexact HrA
    iexact HwA
  isplitl [HrB HwB]
  · isplitl [HrB]; · iexact HrB
    iexact HwB
  isplitl [Hl]; · iexact Hl
  iexact Hd

theorem ord_before : ord ⟨⟨a, z, b⟩, t⟩ / 2 + 2 < (ord ⟨⟨a, z, false⟩, t⟩ + 2) / 2 + 2 := by
  cases a <;> cases z <;> cases b <;> simp only [ord, base, cond_true, cond_false] <;> omega

/-- The two finished transfers of a step join the others. -/
theorem At_push {n : ℕ} (hn : n = ord ⟨⟨a, z, false⟩, t⟩) :
    iprop(doneRes ⟨⟨a, z, false⟩, t⟩ c ∗ doneRes ⟨⟨a, z, true⟩, t⟩ c ∗ owing c (owedFrom c (n + 2)) ∗ links c (n + 2) ∗ done c n)
      ⊢ At (F := F) c (n + 2) := by
  have hn' : n + 1 = ord ⟨⟨a, z, true⟩, t⟩ := by rw [hn]; rfl
  unfold At
  iintro ⟨HA, HB, HO, Hl, Hd⟩
  isplitl [Hl]; · iexact Hl
  isplitl [HO]; · iexact HO
  have h1 := done_push (F := F) c ⟨⟨a, z, false⟩, t⟩
  have h2 := done_push (F := F) c ⟨⟨a, z, true⟩, t⟩
  rw [← hn] at h1
  rw [← hn'] at h2
  iapply h2
  isplitl [HB]; · iexact HB
  iapply h1
  isplitl [HA]; · iexact HA
  iexact Hd

/-- Take in a reduce channel's slot `t`, add and stage. -/
theorem take_op {n : ℕ} (hn : ord ⟨⟨false, z, b⟩, t⟩ / 2 + 2 < n / 2 + 2) {p : FVec F (shp z) .f32}
    (hp : p = part X W z b (ix z b (t.val + 1) c) (ix_lt z b (t.val + 1) c) c) {Φ : PUnit → sProp 𝕄} :
    iprop(ctx X W K ∗ owing c (owedFrom c n) ∗ recvWait ⟨⟨false, z, b⟩, t⟩ c ∗ some' c (slotOf (sbuf z b) (nextSlot t.val)))
      ⊢ iprop((owing c (owedFrom c n) ∗ (atPos ER (recvCell c ⟨⟨false, z, b⟩, t⟩) 1 ∅ 0 ∗ some' c (slotM ⟨false, z, b⟩ t))
          ∗ own c (slotOf (sbuf z b) (nextSlot t.val)) (sentVal X W ⟨false, z, b⟩ (t.val + 1) c) -∗ Φ ⟨⟩)
        -∗ WP c (takeOp z b t p) Φ) := by
  iintro ⟨#HC, HO, Hr, Hs⟩ Hk
  unfold takeOp
  iapply (wp_seq c)
  iapply (recv_op X W K c ⟨false, z, b⟩ t hn) $$ [HO Hr]
  · isplitr; · iexact HC
    isplitl [HO]; · iexact HO
    iexact Hr
  iintro ⟨HO, Ha, Hp⟩
  iapply (wp_seq c)
  unfold recvPay
  iapply (loadSlot_op c ⟨false, z, b⟩ t (recvVal X W ⟨false, z, b⟩ t.val c)) $$ Hp
  iintro %v %hv Hp
  rw [show down (addf p (up (unslot z v))) = sentVal X W ⟨false, z, b⟩ (t.val + 1) c from by rw [sentVal_succ, ← hp, hv]]
  iapply (stage_op c z b (nextSlot t.val) (sentVal X W ⟨false, z, b⟩ (t.val + 1) c)) $$ Hs
  iintro Hs
  iapply Hk
  isplitl [HO]; · iexact HO
  isplitl [Ha Hp]
  · isplitl [Ha]; · iexact Ha
    iexists _; iexact Hp
  iexact Hs

/-- The last one: the ring's total comes out. -/
theorem last_op {n : ℕ} (hn : ord ⟨⟨false, z, b⟩, t⟩ / 2 + 2 < n / 2 + 2) {p : FVec F (shp z) .f32} {Φ : FVec F (shp z) .f32 → sProp 𝕄} :
    iprop(ctx X W K ∗ owing c (owedFrom c n) ∗ recvWait ⟨⟨false, z, b⟩, t⟩ c)
      ⊢ iprop((owing c (owedFrom c n) ∗ (atPos ER (recvCell c ⟨⟨false, z, b⟩, t⟩) 1 ∅ 0 ∗ some' c (slotM ⟨false, z, b⟩ t))
          -∗ Φ (addf p (up (recvVal X W ⟨false, z, b⟩ t.val c))))
        -∗ WP c (lastOp z b t p) Φ) := by
  iintro ⟨#HC, HO, Hr⟩ Hk
  unfold lastOp
  iapply (wp_seq c)
  iapply (recv_op X W K c ⟨false, z, b⟩ t hn) $$ [HO Hr]
  · isplitr; · iexact HC
    isplitl [HO]; · iexact HO
    iexact Hr
  iintro ⟨HO, Ha, Hp⟩
  iapply (wp_seq c)
  unfold recvPay
  iapply (loadSlot_op c ⟨false, z, b⟩ t (recvVal X W ⟨false, z, b⟩ t.val c)) $$ Hp
  iintro %v %hv Hp
  rw [hv]
  iapply (wp_done c)
  iapply Hk
  isplitl [HO]; · iexact HO
  isplitl [Ha]; · iexact Ha
  iexists _; iexact Hp

/-- Get a reduce channel's staging slot back, and close the transfer. -/
theorem sentR_op {n : ℕ} {Φ : PUnit → sProp 𝕄} :
    iprop(ctx X W K ∗ owing c (owedFrom c n) ∗ sentWait ⟨⟨false, z, b⟩, t⟩ c
        ∗ (atPos ER (recvCell c ⟨⟨false, z, b⟩, t⟩) 1 ∅ 0 ∗ some' c (slotM ⟨false, z, b⟩ t)))
      ⊢ iprop((owing c (owedFrom c n) ∗ doneRes ⟨⟨false, z, b⟩, t⟩ c ∗ some' c (srcM ⟨false, z, b⟩ t) -∗ Φ ⟨⟩)
        -∗ WP c (sentOp ⟨false, z, b⟩ t) Φ) := by
  iintro ⟨#HC, HO, Hw, Ha, Hp⟩ Hk
  iapply (sent_op X W K c ⟨false, z, b⟩ t) $$ [HO Hw]
  · isplitr; · iexact HC
    isplitl [HO]; · iexact HO
    iexact Hw
  iintro ⟨HO, Hs, Hsrc⟩
  iapply Hk
  isplitl [HO]; · iexact HO
  unfold doneRes left
  isplitl [Hs Ha Hp]
  · isplitl [Hs]; · iexact Hs
    isplitl [Ha]; · iexact Ha
    iexact Hp
  unfold sendPay
  iexists _; iexact Hsrc

end Rules

/-! ## Loads of the operands -/

section Loads
variable (c : Dev nD)

theorem loadX_op {off : Fin 2 → Nat} (h : ∀ a, off a + S256x64.size a ≤ S2048x64.size a) {n : ℕ} (hn : n < 8) (ho : off = ![256 * n, 0])
    (Y : Vec F S2048x64 .bf16) {Φ : Vec F S256x64 .bf16 → sProp 𝕄} :
    own c xM Y ⊢ iprop((own c xM Y -∗ Φ (sub (xR n hn) Y)) -∗ WP c (loadX off h) Φ) := by
  subst ho
  exact load_own c Y

theorem loadPlane_op (b : Bool) {off : Fin 2 → Nat} (h : ∀ a, off a + S64x1024.size a ≤ S256x1024.size a) {n : ℕ} (hn : n < 4) (ho : off = ![64 * n, 0])
    (Y : Vec F S256x1024 .f32) {Φ : Vec F S64x1024 .f32 → sProp 𝕄} :
    own c (plane b) Y ⊢ iprop((own c (plane b) Y -∗ Φ (sub (zRect n hn) Y)) -∗ WP c (loadPlane b off h) Φ) := by
  subst ho
  exact load_own c Y

end Loads

/-! ## The steps -/

section StepRules
variable (K : Dev nD × CI → ℕ) (c : Dev nD)

/-- A step of the plane reduce. -/
theorem planeStep_op (t : Fin 7) {dA dB : Dev nD} (hA : dA = peer false false c) (hB : dB = peer false true c)
    {w : Bool → FVec F S64x1024 .bf16} (hw : ∀ b, w b = wv W b c) {n : ℕ} (hn : n = ord ⟨pR false, t⟩) {Φ : PUnit → sProp 𝕄} :
    iprop(ctx X W K ∗ At c n ∗ own c xM (X c) ∗ stg X W false false t.val c ∗ stg X W false true t.val c)
      ⊢ iprop((At c (n + 2) ∗ own c xM (X c) ∗ stg X W false false (t.val + 1) c ∗ stg X W false true (t.val + 1) c -∗ Φ ⟨⟩)
        -∗ WP c (planeStep c t dA dB w) Φ) := by
  have ho (b : Bool) : ord ⟨pR b, t⟩ / 2 + 2 < (n + 2) / 2 + 2 := by rw [hn]; exact ord_before false false b t
  unfold stg
  iintro ⟨#HC, HA, HX, ⟨HsA, HfA⟩, ⟨HsB, HfB⟩⟩ Hk
  unfold planeStep
  iapply (sends_op X W K c false false t hA hB hn) $$ [HA HsA HsB]
  · isplitr; · iexact HC
    isplitl [HA]; · iexact HA
    isplitl [HsA]; · iapply (stg_src X W false false t c); iexact HsA
    iapply (stg_src X W false true t c); iexact HsB
  iintro ⟨HO, ⟨HrA, HwA⟩, ⟨HrB, HwB⟩, Hl, Hd⟩
  iapply (wp_seq c)
  iapply (loadX_op c _ (ix_lt false false (t.val + 1) c) (xoff_eq false c t) (X c)) $$ HX
  iintro HX
  iapply (wp_seq c)
  iapply (loadX_op c _ (ix_lt false true (t.val + 1) c) (xoff_eq true c t) (X c)) $$ HX
  iintro HX
  iapply (wp_seq c)
  iapply (take_op X W K c false false t (ho false) (by rw [hw]; rfl)) $$ [HO HrA HfA]
  · isplitr; · iexact HC
    isplitl [HO]; · iexact HO
    isplitl [HrA]; · iexact HrA
    iexact HfA
  iintro ⟨HO, HrA, HfA⟩
  iapply (wp_seq c)
  iapply (take_op X W K c false true t (ho true) (by rw [hw]; rfl)) $$ [HO HrB HfB]
  · isplitr; · iexact HC
    isplitl [HO]; · iexact HO
    isplitl [HrB]; · iexact HrB
    iexact HfB
  iintro ⟨HO, HrB, HfB⟩
  iapply (wp_seq c)
  iapply (sentR_op X W K c false false t) $$ [HO HwA HrA]
  · isplitr; · iexact HC
    isplitl [HO]; · iexact HO
    isplitl [HwA]; · iexact HwA
    iexact HrA
  iintro ⟨HO, HdA, HsA⟩
  iapply (sentR_op X W K c false true t) $$ [HO HwB HrB]
  · isplitr; · iexact HC
    isplitl [HO]; · iexact HO
    isplitl [HwB]; · iexact HwB
    iexact HrB
  iintro ⟨HO, HdB, HsB⟩
  iapply Hk
  isplitl [HdA HdB HO Hl Hd]
  · iapply (At_push c false false t hn)
    isplitl [HdA]; · iexact HdA
    isplitl [HdB]; · iexact HdB
    isplitl [HO]; · iexact HO
    isplitl [Hl]; · iexact Hl
    iexact Hd
  isplitl [HX]; · iexact HX
  isplitl [HfA HsA]
  · isplitl [HfA]; · iexact HfA
    rw [next_next t.val]
    iexact HsA
  isplitl [HfB]; · iexact HfB
  rw [next_next t.val]
  iexact HsB

end StepRules

end Cert.KernelIdeal.Ring

end
-- ==== Proof.Reduce.lean ====
/-
# The ends of the reduces

The seeds of the two rings, their last steps, and the finish of the device's own block: its rectangle of the
result, its rounded copy, and the copies of that where the gathers send from.
-/
module

public import proofs.«01_k».proof.Proof.Steps
public import Idealize.ShloMosaic.Lib.VecWindow
public import Idealize.ShloMosaic.Lib.Pipeline.Value
public import Idealize.ShloMosaic.Lib.Pipeline.ValueKit.Geometry

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

/-! ## Bookkeeping of the result and of the plane gather's source -/

/-- Transfer `l` of a gather brings device `c` entry `i` of the result. -/
def brings (l : Lk) (c : Dev nD) (i : S2048x2048.Idx) : Prop :=
  side (i 1) = l.1.b ∧ bif l.1.z then owner (i 0) = (prev true l.1.b)^[l.2.val + 1] c else pos (owner (i 0)) = pos ((prev false l.1.b)^[l.2.val + 1] c)
/-- The entries device `c` has when the transfers numbered below `n` are in. -/
def Has (c : Dev nD) (n : ℕ) (i : S2048x2048.Idx) : Prop :=
  owner (i 0) = c ∨ ∃ l : Lk, l.1.ag = true ∧ ord l < n ∧ brings l c i
/-- The rows of the plane gather's source that are in after `n` steps of the column gather. -/
def Rows (b : Bool) (c : Dev nD) (n : ℕ) (i : S256x1024.Idx) : Prop :=
  rowPlane (i 0) = lay c ∨ ∃ h < n, (rowPlane (i 0)).val = ix true b h c

/-- The plane gather's source, at its literal shape. -/
abbrev pS (b : Bool) : Memref sig .tc .vmem S256x1024 .bf16 := gsrc false b

/-- The result, and the plane gather's source, as far as they are in. -/
def outAt (c : Dev nD) (n : ℕ) : sProp 𝕄 := filled c oM (target X W c) (Has c n)
def gsrcAt (b : Bool) (c : Dev nD) (n : ℕ) : sProp 𝕄 := filled c (pS b) (column X W b c) (Rows b c n)

section Stores
variable (c : Dev nD)

theorem emb2 {R C h w : ℕ} {off : Fin 2 → Nat} (inb : ∀ a, off a + (![h, w] : Fin 2 → Nat) a ≤ (⟨2, ![R, C]⟩ : Shape).size a)
    (j : (⟨2, ![h, w]⟩ : Shape).Idx) (a : Fin 2) :
    ((Rect.unit (s := ⟨2, ![R, C]⟩) off ![h, w] inb).emb j a : Nat) = off a + (j a).val :=
  ValueKit.rect_emb_unit_val (s := ⟨2, ![R, C]⟩) off ![h, w] inb j a

/-- Write a rectangle of the result. -/
theorem storeOut_op {sz : Fin 2 → Nat} {h0 : 0 < (⟨2, sz⟩ : Shape).numel} {off off' : Fin 2 → Nat}
    (h : ∀ a, off a + sz a ≤ S2048x2048.size a) (ho : off = off') (h' : ∀ a, off' a + sz a ≤ S2048x2048.size a) {v : FVec F ⟨2, sz⟩ .f32}
    (T : S2048x2048.Idx → Elt F .f32) (D D' : S2048x2048.Idx → Prop)
    (hw : ∀ j, v j = T ((Rect.unit (s := S2048x2048) off' sz h').emb j)) (hD : ∀ i, D' i → D i ∨ i ∈ (Rect.unit (s := S2048x2048) off' sz h').set)
    {Φ : PUnit → sProp 𝕄} :
    filled c oM T D ⊢ iprop((filled c oM T D' -∗ Φ ⟨⟩) -∗ WP c (storeOut sz h0 off h v) Φ) := by
  subst ho
  iintro H Hk
  unfold storeOut
  iapply (wp_seq c)
  iapply (load_filled c T D) $$ H
  iintro %v0 H
  iapply (store_filled c T D D' hw hD) $$ H
  iexact Hk

/-- Write sixty-four rows of the plane gather's source. -/
theorem storeGsrc_op (b : Bool) {off off' : Fin 2 → Nat} (h : ∀ a, off a + S64x1024.size a ≤ S256x1024.size a) (ho : off = off')
    (h' : ∀ a, off' a + S64x1024.size a ≤ S256x1024.size a)
    {hp : (Rect.unit (s := S256x1024) off S64x1024.size h).PackedRows (EltTy.packing .bf16)} {v : FVec F S64x1024 .bf16}
    (T : S256x1024.Idx → Elt F .bf16) (D D' : S256x1024.Idx → Prop)
    (hw : ∀ j, v j = T ((Rect.unit (s := S256x1024) off' S64x1024.size h').emb j))
    (hD : ∀ i, D' i → D i ∨ i ∈ (Rect.unit (s := S256x1024) off' S64x1024.size h').set) {Φ : PUnit → sProp 𝕄} :
    filled c (pS b) T D ⊢ iprop((filled c (pS b) T D' -∗ Φ ⟨⟩) -∗ WP c (storeGsrc b off h hp v) Φ) := by
  subst ho
  iintro H Hk
  unfold storeGsrc
  iapply (wp_seq c)
  iapply (load_filled c T D) $$ H
  iintro %v0 H
  rw [shapeCast_self]
  iapply (store_filled c T D D' hw hD) $$ H
  iexact Hk

/-- Replace a plane total. -/
theorem storePlane_op (b : Bool) (v : FVec F S256x1024 .f32) {Φ : PUnit → sProp 𝕄} :
    some' c (plane b) ⊢ iprop((own c (plane b) v -∗ Φ ⟨⟩) -∗ WP c (storePlane b v) Φ) := by
  iintro H Hk
  unfold storePlane
  iapply (wp_seq c)
  iapply (load_some c) $$ H
  iintro %v0 H
  iapply (store_all c v (fun i => ⟨i, Rect.emb_unit_full (s := S256x1024) _ i⟩)
    (fun j => (congrFun (shapeCast_self v _) j).trans (congrArg v (Rect.emb_unit_full (s := S256x1024) _ j).symm))) $$ H
  iexact Hk

/-- Read a half of the rows of `w`. -/
theorem loadW_op (b : Bool) {off : Fin 2 → Nat} (h : ∀ a, off a + S64x1024.size a ≤ S64x2048.size a) (ho : off = ![0, bif b then 1024 else 0])
    {Φ : FVec F S64x1024 .bf16 → sProp 𝕄} :
    own c wM (W c) ⊢ iprop((own c wM (W c) -∗ Φ (wv W b c)) -∗ WP c (loadW off h) Φ) := by
  subst ho
  iintro H Hk
  unfold loadW
  iapply (wp_seq c)
  iapply (load_own c (W c)) $$ H
  iintro H
  iapply (wp_done c)
  iapply (show Φ (wv W b c) ⊢ Φ (shapeCast S64x1024 (sub (halfR b) (W c)) shapeCasts_S64x1024_S64x1024) from Entails.of_eq rfl)
  iapply Hk
  iexact H

/-- Seed a plane ring. -/
theorem seedX_op (b : Bool) {off : Fin 2 → Nat} (h : ∀ a, off a + S256x64.size a ≤ S2048x64.size a) (ho : off = ![256 * ix false b 0 c, 0])
    {Φ : PUnit → sProp 𝕄} :
    iprop(own c xM (X c) ∗ some' c (slotOf (sbuf false b) 0) ∗ some' c (slotOf (sbuf false b) 1))
      ⊢ iprop((own c xM (X c) ∗ stg X W false b 0 c -∗ Φ ⟨⟩) -∗ WP c (seedX b (wv W b c) off h) Φ) := by
  iintro ⟨HX, H0, H1⟩ Hk
  unfold seedX
  iapply (wp_seq c)
  iapply (loadX_op c h (ix_lt false b 0 c) ho (X c)) $$ HX
  iintro HX
  iapply (stage_op c false b 0 (sentVal X W ⟨false, false, b⟩ 0 c)) $$ H0
  iintro H0
  iapply Hk
  isplitl [HX]; · iexact HX
  unfold stg
  isplitl [H0]; · iexact H0
  iexact H1

/-- Seed a column ring. -/
theorem seedZ_op (b : Bool) {off : Fin 2 → Nat} (h : ∀ a, off a + S64x1024.size a ≤ S256x1024.size a) (ho : off = ![64 * ix true b 0 c, 0])
    {Φ : PUnit → sProp 𝕄} :
    iprop(own c (plane b) (totP X W b c) ∗ some' c (slotOf (sbuf true b) 0) ∗ some' c (slotOf (sbuf true b) 1))
      ⊢ iprop((own c (plane b) (totP X W b c) ∗ stg X W true b 0 c -∗ Φ ⟨⟩) -∗ WP c (seedZ b off h) Φ) := by
  iintro ⟨HX, H0, H1⟩ Hk
  unfold seedZ
  iapply (wp_seq c)
  iapply (loadPlane_op c b h (ix_lt true b 0 c) ho (totP X W b c)) $$ HX
  iintro HX
  iapply (stage_op c true b 0 (sentVal X W ⟨false, true, b⟩ 0 c)) $$ H0
  iintro H0
  iapply Hk
  isplitl [HX]; · iexact HX
  unfold stg
  isplitl [H0]; · iexact H0
  iexact H1

/-- Copy a half of the own block to where its column gather sends from. -/
theorem ownHalf_op (b : Bool) {off : Fin 2 → Nat} (h : ∀ a, off a + S64x1024.size a ≤ S64x2048.size a) (ho : off = ![0, bif b then 1024 else 0])
    {Φ : PUnit → sProp 𝕄} :
    iprop(own c ownM (blkd X W c) ∗ some' c (gsrc true b))
      ⊢ iprop((own c ownM (blkd X W c) ∗ own c (gsrc true b) (half X W b c) -∗ Φ ⟨⟩) -∗ WP c (ownHalf b off h) Φ) := by
  subst ho
  iintro ⟨HB, HG⟩ Hk
  unfold ownHalf
  iapply (wp_seq c)
  iapply (load_own c (blkd X W c)) $$ HB
  iintro HB
  iapply (wp_seq c)
  iapply (load_some c) $$ HG
  iintro %v0 HG
  iapply (store_all c (half X W b c) (fun i => ⟨i, Rect.emb_unit_full (s := S64x1024) _ i⟩)
    (fun j => congrArg (half X W b c) (Rect.emb_unit_full (s := S64x1024) _ j).symm)) $$ HG
  iintro HG
  iapply Hk
  isplitl [HB]; · iexact HB
  iexact HG

theorem zrow_inb {n : ℕ} (h : n < 4) : ∀ a, (![64 * n, 0] : Fin 2 → Nat) a + S64x1024.size a ≤ S256x1024.size a :=
  inb_rows (R := 256) (w := 1024) (by omega)

/-- Sixty-four rows of a column are one device's half. -/
theorem column_at (b : Bool) {n : ℕ} (h : n < 4) (d : Dev nD) (hd : devAt (pos c) ⟨n, h⟩ = d) (j : S64x1024.Idx) :
    half X W b d j = column X W b c ((Rect.unit (s := S256x1024) ![64 * n, 0] S64x1024.size (zrow_inb h)).emb j) := by
  have h0 : (((Rect.unit (s := S256x1024) ![64 * n, 0] S64x1024.size (zrow_inb h)).emb j) 0).val = 64 * n + (j 0).val := emb2 _ j 0
  have h1 : (((Rect.unit (s := S256x1024) ![64 * n, 0] S64x1024.size (zrow_inb h)).emb j) 1).val = 0 + (j 1).val := emb2 _ j 1
  have hj : (j 0).val < 64 := (j 0).isLt
  unfold column
  rw [show rowPlane (((Rect.unit (s := S256x1024) ![64 * n, 0] S64x1024.size (zrow_inb h)).emb j) 0) = ⟨n, h⟩ from
    Fin.ext (by show _ / 64 = n; rw [h0]; omega), hd]
  congr 1
  funext a
  fin_cases a
  · exact Fin.ext (by show (j 0).val = _ % 64; rw [h0]; omega)
  · exact Fin.ext (by show (j 1).val = _; rw [h1]; omega)

theorem column_mem {n : ℕ} (h : n < 4) (i : S256x1024.Idx) (hi : (rowPlane (i 0)).val = n) :
    i ∈ (Rect.unit (s := S256x1024) ![64 * n, 0] S64x1024.size (zrow_inb h)).set := by
  rw [Rect.mem_set_unit]
  have h0 : (i 0).val < 256 := (i 0).isLt
  have h1 : (i 1).val < 1024 := (i 1).isLt
  change (i 0).val / 64 = n at hi
  intro a
  fin_cases a
  · show 64 * n ≤ (i 0).val ∧ (i 0).val < 64 * n + 64; omega
  · show 0 ≤ (i 1).val ∧ (i 1).val < 0 + 1024; omega

/-- Copy it on into its place of the plane gather's source. -/
theorem ownPlane_op (b : Bool) {Φ : PUnit → sProp 𝕄} :
    iprop(own c (gsrc true b) (half X W b c) ∗ some' c (pS b))
      ⊢ iprop((own c (gsrc true b) (half X W b c) ∗ gsrcAt X W b c 0 -∗ Φ ⟨⟩) -∗ WP c (ownPlane c b) Φ) := by
  have hw : ∀ j, sub (Rect.unit (s := S64x1024) ![0, 0] S64x1024.size inb_S64x1024_S64x1024_0_0) (half X W b c) j
      = column X W b c ((Rect.unit (s := S256x1024) ![64 * (lay c).val, 0] S64x1024.size (zrow_inb (lay c).isLt)).emb j) :=
    fun j => (congrArg (half X W b c) (Rect.emb_unit_full (s := S64x1024) _ j)).trans
      (column_at X W c b (lay c).isLt c (devAt_pos_lay c) j)
  have hD : ∀ i, Rows b c 0 i → False ∨ i ∈ (Rect.unit (s := S256x1024) ![64 * (lay c).val, 0] S64x1024.size (zrow_inb (lay c).isLt)).set :=
    fun i hi => .inr (column_mem (lay c).isLt i (by
      rcases hi with hi | ⟨h, hh, -⟩
      · exact congrArg Fin.val hi
      · exact absurd hh (Nat.not_lt_zero h)))
  iintro ⟨HG, HP⟩ Hk
  unfold ownPlane
  iapply (wp_seq c)
  iapply (load_own c (half X W b c)) $$ HG
  iintro HG
  ihave HP := (filled_start c (m := pS b) (column X W b c)) $$ HP
  iapply (storeGsrc_op c b (k0_off10_inb c) (off10_eq c) (zrow_inb (lay c).isLt) (column X W b c) (fun _ => False) (Rows b c 0)
    hw hD) $$ HP
  iintro HP
  iapply Hk
  isplitl [HG]; · iexact HG
  unfold gsrcAt
  iexact HP

end Stores

section LastSteps
variable (K : Dev nD × CI → ℕ) (c : Dev nD)

/-- Both staging slots of a ring, free again. -/
def stgFree (z b : Bool) (c : Dev nD) : sProp 𝕄 := iprop(some' c (slotOf (sbuf z b) 0) ∗ some' c (slotOf (sbuf z b) 1))

/-- The last step of the plane reduce. -/
theorem planeLast_op {dA dB : Dev nD} (hA : dA = peer false false c) (hB : dB = peer false true c)
    {w : Bool → FVec F S64x1024 .bf16} (hw : ∀ b, w b = wv W b c) {n : ℕ} (hn : n = ord ⟨pR false, (6 : Fin 7)⟩) {Φ : PUnit → sProp 𝕄} :
    iprop(ctx X W K ∗ At c n ∗ own c xM (X c) ∗ stg X W false false 6 c ∗ stg X W false true 6 c ∗ some' c (plane false) ∗ some' c (plane true))
      ⊢ iprop((At c (n + 2) ∗ own c xM (X c) ∗ stgFree false false c ∗ stgFree false true c
          ∗ own c (plane false) (totP X W false c) ∗ own c (plane true) (totP X W true c) -∗ Φ ⟨⟩)
        -∗ WP c (planeLast c dA dB w) Φ) := by
  have ho (b : Bool) : ord ⟨pR b, (6 : Fin 7)⟩ / 2 + 2 < (n + 2) / 2 + 2 := by rw [hn]; exact ord_before false false b (6 : Fin 7)
  have htot (b : Bool) : addf (xdot (w b) (sub (xR (ix false b (6 + 1) c) (ix_lt false b (6 + 1) c)) (X c))) (up (recvVal X W ⟨false, false, b⟩ 6 c))
      = totP X W b c := by rw [hw]; rfl
  unfold stg
  iintro ⟨#HC, HA, HX, ⟨HsA, HfA⟩, ⟨HsB, HfB⟩, HPA, HPB⟩ Hk
  unfold planeLast
  iapply (sends_op X W K c false false (6 : Fin 7) hA hB hn) $$ [HA HsA HsB]
  · isplitr; · iexact HC
    isplitl [HA]; · iexact HA
    isplitl [HsA]; · iapply (stg_src X W false false (6 : Fin 7) c); iexact HsA
    iapply (stg_src X W false true (6 : Fin 7) c); iexact HsB
  iintro ⟨HO, ⟨HrA, HwA⟩, ⟨HrB, HwB⟩, Hl, Hd⟩
  iapply (wp_seq c)
  iapply (loadX_op c _ (ix_lt false false (6 + 1) c) (xoff_eq false c 6) (X c)) $$ HX
  iintro HX
  iapply (wp_seq c)
  iapply (loadX_op c _ (ix_lt false true (6 + 1) c) (xoff_eq true c 6) (X c)) $$ HX
  iintro HX
  iapply (wp_seq c)
  iapply (last_op X W K c false false (6 : Fin 7) (ho false)) $$ [HO HrA]
  · isplitr; · iexact HC
    isplitl [HO]; · iexact HO
    iexact HrA
  iintro ⟨HO, HrA⟩
  iapply (wp_seq c)
  iapply (last_op X W K c false true (6 : Fin 7) (ho true)) $$ [HO HrB]
  · isplitr; · iexact HC
    isplitl [HO]; · iexact HO
    iexact HrB
  iintro ⟨HO, HrB⟩
  iapply (wp_seq c)
  iapply (sentR_op X W K c false false (6 : Fin 7)) $$ [HO HwA HrA]
  · isplitr; · iexact HC
    isplitl [HO]; · iexact HO
    isplitl [HwA]; · iexact HwA
    iexact HrA
  iintro ⟨HO, HdA, HsA⟩
  iapply (wp_seq c)
  iapply (sentR_op X W K c false true (6 : Fin 7)) $$ [HO HwB HrB]
  · isplitr; · iexact HC
    isplitl [HO]; · iexact HO
    isplitl [HwB]; · iexact HwB
    iexact HrB
  iintro ⟨HO, HdB, HsB⟩
  iapply (wp_seq c)
  iapply (storePlane_op c false _) $$ HPA
  iintro HPA
  iapply (storePlane_op c true _) $$ HPB
  iintro HPB
  iapply Hk
  isplitl [HdA HdB HO Hl Hd]
  · iapply (At_push c false false (6 : Fin 7) hn)
    isplitl [HdA]; · iexact HdA
    isplitl [HdB]; · iexact HdB
    isplitl [HO]; · iexact HO
    isplitl [Hl]; · iexact Hl
    iexact Hd
  isplitl [HX]; · iexact HX
  unfold stgFree
  isplitl [HsA HfA]
  · isplitl [HsA]; · iexact HsA
    iexact HfA
  isplitl [HsB HfB]
  · isplitl [HsB]; · iexact HsB
    iexact HfB
  isplitl [HPA]
  · rw [← htot false]; iexact HPA
  rw [← htot true]; iexact HPB

/-- A step of the column reduce. -/
theorem colStep_op (t : Fin 3) {dA dB : Dev nD} (hA : dA = peer true false c) (hB : dB = peer true true c)
    {n : ℕ} (hn : n = ord ⟨zR false, t⟩) {Φ : PUnit → sProp 𝕄} :
    iprop(ctx X W K ∗ At c n ∗ own c (plane false) (totP X W false c) ∗ own c (plane true) (totP X W true c)
        ∗ stg X W true false t.val c ∗ stg X W true true t.val c)
      ⊢ iprop((At c (n + 2) ∗ own c (plane false) (totP X W false c) ∗ own c (plane true) (totP X W true c)
          ∗ stg X W true false (t.val + 1) c ∗ stg X W true true (t.val + 1) c -∗ Φ ⟨⟩)
        -∗ WP c (colStep c t dA dB) Φ) := by
  have ho (b : Bool) : ord ⟨zR b, t⟩ / 2 + 2 < (n + 2) / 2 + 2 := by rw [hn]; exact ord_before false true b t
  unfold stg
  iintro ⟨#HC, HA, HPA, HPB, ⟨HsA, HfA⟩, ⟨HsB, HfB⟩⟩ Hk
  unfold colStep
  iapply (sends_op X W K c false true t hA hB hn) $$ [HA HsA HsB]
  · isplitr; · iexact HC
    isplitl [HA]; · iexact HA
    isplitl [HsA]; · iapply (stg_src X W true false t c); iexact HsA
    iapply (stg_src X W true true t c); iexact HsB
  iintro ⟨HO, ⟨HrA, HwA⟩, ⟨HrB, HwB⟩, Hl, Hd⟩
  iapply (wp_seq c)
  iapply (loadPlane_op c false _ (ix_lt true false (Fin.val t + 1) c) (zoff_eq false c t) (totP X W false c)) $$ HPA
  iintro HPA
  iapply (wp_seq c)
  iapply (loadPlane_op c true _ (ix_lt true true (Fin.val t + 1) c) (zoff_eq true c t) (totP X W true c)) $$ HPB
  iintro HPB
  iapply (wp_seq c)
  iapply (take_op X W K c true false t (ho false) rfl) $$ [HO HrA HfA]
  · isplitr; · iexact HC
    isplitl [HO]; · iexact HO
    isplitl [HrA]; · iexact HrA
    iexact HfA
  iintro ⟨HO, HrA, HfA⟩
  iapply (wp_seq c)
  iapply (take_op X W K c true true t (ho true) rfl) $$ [HO HrB HfB]
  · isplitr; · iexact HC
    isplitl [HO]; · iexact HO
    isplitl [HrB]; · iexact HrB
    iexact HfB
  iintro ⟨HO, HrB, HfB⟩
  iapply (wp_seq c)
  iapply (sentR_op X W K c true false t) $$ [HO HwA HrA]
  · isplitr; · iexact HC
    isplitl [HO]; · iexact HO
    isplitl [HwA]; · iexact HwA
    iexact HrA
  iintro ⟨HO, HdA, HsA⟩
  iapply (sentR_op X W K c true true t) $$ [HO HwB HrB]
  · isplitr; · iexact HC
    isplitl [HO]; · iexact HO
    isplitl [HwB]; · iexact HwB
    iexact HrB
  iintro ⟨HO, HdB, HsB⟩
  iapply Hk
  isplitl [HdA HdB HO Hl Hd]
  · iapply (At_push c false true t hn)
    isplitl [HdA]; · iexact HdA
    isplitl [HdB]; · iexact HdB
    isplitl [HO]; · iexact HO
    isplitl [Hl]; · iexact Hl
    iexact Hd
  isplitl [HPA]; · iexact HPA
  isplitl [HPB]; · iexact HPB
  isplitl [HfA HsA]
  · isplitl [HfA]; · iexact HfA
    rw [next_next t.val]
    iexact HsA
  isplitl [HfB]; · iexact HfB
  rw [next_next t.val]
  iexact HsB

theorem owner_at (i : Fin 2048) (p : Fin 8) (z : Fin 4) (r : ℕ) (hr : r < 64) (h : i.val = 256 * p.val + 64 * z.val + r) : owner i = devAt p z := by
  have hz := z.isLt
  unfold owner
  congr 1
  · exact Fin.ext (by show i.val / 256 = p.val; omega)
  · exact Fin.ext (by show i.val % 256 / 64 = z.val; omega)

theorem own_mem (i : S2048x2048.Idx) (hi : Has c 20 i) :
    i ∈ (Rect.unit (s := S2048x2048) ![256 * (pos c).val + 64 * (lay c).val, 0] S64x2048.size (outOwn_inb c)).set := by
  have ho : owner (i 0) = c := by
    rcases hi with h | ⟨l, hl, hlt, -⟩
    · exact h
    · exact absurd hlt (by
        have : 20 ≤ ord l := by
          obtain ⟨⟨a, z, b⟩, t⟩ := l
          cases hl
          cases z <;> simp only [ord, base, cond_true, cond_false] <;> omega
        omega)
  have hp : (i 0).val / 256 = (pos c).val := by rw [← ho]; unfold owner; rw [pos_devAt]
  have hl : (i 0).val % 256 / 64 = (lay c).val := by rw [← ho]; unfold owner; rw [lay_devAt]
  have h1 : (i 1).val < 2048 := (i 1).isLt
  rw [Rect.mem_set_unit]
  intro a
  fin_cases a
  · show 256 * (pos c).val + 64 * (lay c).val ≤ (i 0).val ∧ (i 0).val < 256 * (pos c).val + 64 * (lay c).val + 64; omega
  · show 0 ≤ (i 1).val ∧ (i 1).val < 0 + 2048; omega

theorem target_own (j : S64x2048.Idx) : blk X W c j
    = target X W c ((Rect.unit (s := S2048x2048) ![256 * (pos c).val + 64 * (lay c).val, 0] S64x2048.size (outOwn_inb c)).emb j) := by
  have h0 : (((Rect.unit (s := S2048x2048) ![256 * (pos c).val + 64 * (lay c).val, 0] S64x2048.size (outOwn_inb c)).emb j) 0).val
      = 256 * (pos c).val + 64 * (lay c).val + (j 0).val := emb2 _ j 0
  have h1 : (((Rect.unit (s := S2048x2048) ![256 * (pos c).val + 64 * (lay c).val, 0] S64x2048.size (outOwn_inb c)).emb j) 1).val
      = 0 + (j 1).val := emb2 _ j 1
  have hj : (j 0).val < 64 := (j 0).isLt
  have hp := (pos c).isLt
  have hl := (lay c).isLt
  unfold target
  rw [if_pos ((owner_at _ (pos c) (lay c) _ hj h0).trans (devAt_pos_lay c))]
  congr 1
  funext a
  fin_cases a
  · exact Fin.ext (by show (j 0).val = _ % 64; rw [h0]; omega)
  · exact Fin.ext (by show (j 1).val = _; rw [h1]; omega)

/-- The last step of the column reduce, with the own block. -/
theorem colLast_op {dA dB : Dev nD} (hA : dA = peer true false c) (hB : dB = peer true true c)
    {n : ℕ} (hn : n = ord ⟨zR false, (2 : Fin 3)⟩) {Φ : PUnit → sProp 𝕄} :
    iprop(ctx X W K ∗ At c n ∗ own c (plane false) (totP X W false c) ∗ own c (plane true) (totP X W true c)
        ∗ stg X W true false 2 c ∗ stg X W true true 2 c ∗ some' c oM ∗ some' c ownM)
      ⊢ iprop((At c (n + 2) ∗ own c (plane false) (totP X W false c) ∗ own c (plane true) (totP X W true c)
          ∗ stgFree true false c ∗ stgFree true true c ∗ outAt X W c 20 ∗ own c ownM (blkd X W c) -∗ Φ ⟨⟩)
        -∗ WP c (colLast c dA dB) Φ) := by
  have ho (b : Bool) : ord ⟨zR b, (2 : Fin 3)⟩ / 2 + 2 < (n + 2) / 2 + 2 := by rw [hn]; exact ord_before false true b (2 : Fin 3)
  unfold stg
  iintro ⟨#HC, HA, HPA, HPB, ⟨HsA, HfA⟩, ⟨HsB, HfB⟩, Hout, Hown⟩ Hk
  unfold colLast
  iapply (sends_op X W K c false true (2 : Fin 3) hA hB hn) $$ [HA HsA HsB]
  · isplitr; · iexact HC
    isplitl [HA]; · iexact HA
    isplitl [HsA]; · iapply (stg_src X W true false (2 : Fin 3) c); iexact HsA
    iapply (stg_src X W true true (2 : Fin 3) c); iexact HsB
  iintro ⟨HO, ⟨HrA, HwA⟩, ⟨HrB, HwB⟩, Hl, Hd⟩
  iapply (wp_seq c)
  iapply (loadPlane_op c false _ (ix_lt true false (Fin.val (2 : Fin 3) + 1) c) (zoff_eq false c (2 : Fin 3)) (totP X W false c)) $$ HPA
  iintro HPA
  iapply (wp_seq c)
  iapply (loadPlane_op c true _ (ix_lt true true (Fin.val (2 : Fin 3) + 1) c) (zoff_eq true c (2 : Fin 3)) (totP X W true c)) $$ HPB
  iintro HPB
  iapply (wp_seq c)
  iapply (last_op X W K c true false (2 : Fin 3) (ho false)) $$ [HO HrA]
  · isplitr; · iexact HC
    isplitl [HO]; · iexact HO
    iexact HrA
  iintro ⟨HO, HrA⟩
  iapply (wp_seq c)
  iapply (last_op X W K c true true (2 : Fin 3) (ho true)) $$ [HO HrB]
  · isplitr; · iexact HC
    isplitl [HO]; · iexact HO
    iexact HrB
  iintro ⟨HO, HrB⟩
  iapply (wp_seq c)
  iapply (sentR_op X W K c true false (2 : Fin 3)) $$ [HO HwA HrA]
  · isplitr; · iexact HC
    isplitl [HO]; · iexact HO
    isplitl [HwA]; · iexact HwA
    iexact HrA
  iintro ⟨HO, HdA, HsA⟩
  iapply (wp_seq c)
  iapply (sentR_op X W K c true true (2 : Fin 3)) $$ [HO HwB HrB]
  · isplitr; · iexact HC
    isplitl [HO]; · iexact HO
    isplitl [HwB]; · iexact HwB
    iexact HrB
  iintro ⟨HO, HdB, HsB⟩
  ihave Hout := (filled_start c (target X W c)) $$ Hout
  iapply (wp_seq c)
  iapply (storeOut_op c (k0_off9_inb c) (off9_eq c) (outOwn_inb c) (target X W c) (fun _ => False) (Has c 20)
    (target_own X W c) (fun i hi => .inr (own_mem c i hi))) $$ Hout
  iintro Hout
  iapply (wp_seq c)
  iapply (load_some c) $$ Hown
  iintro %v0 Hown
  iapply (store_all c (blkd X W c) (fun i => ⟨i, Rect.emb_unit_full (s := S64x2048) _ i⟩)
    (fun j => congrArg (blkd X W c) (Rect.emb_unit_full (s := S64x2048) _ j).symm)) $$ Hown
  iintro Hown
  iapply Hk
  isplitl [HdA HdB HO Hl Hd]
  · iapply (At_push c false true (2 : Fin 3) hn)
    isplitl [HdA]; · iexact HdA
    isplitl [HdB]; · iexact HdB
    isplitl [HO]; · iexact HO
    isplitl [Hl]; · iexact Hl
    iexact Hd
  isplitl [HPA]; · iexact HPA
  isplitl [HPB]; · iexact HPB
  unfold stgFree
  isplitl [HsA HfA]
  · isplitl [HsA]; · iexact HsA
    iexact HfA
  isplitl [HsB HfB]
  · isplitl [HsB]; · iexact HsB
    iexact HfB
  isplitl [Hout]; · unfold outAt; iexact Hout
  iexact Hown

end LastSteps

end Cert.KernelIdeal.Ring

end
-- ==== Proof.Gather.lean ====
/-
# The steps of the gathers

A gather passes a block on unchanged: what step `t` brings is what step `t + 1` sends. Each block taken in is
written to its rectangle of the result, and by the column gather also to its rows of the plane gather's source.
-/
module

public import proofs.«01_k».proof.Proof.Reduce

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

/-! ## Where a gather's blocks come from -/

theorem col_from : ∀ (b : Bool) (c : Dev nD) (h : Fin 3), devAt (pos c) ⟨ix true b h.val c, ix_lt true b h.val c⟩ = (prev true b)^[h.val + 1] c := by
  decide +kernel
theorem col_ne : ∀ (b : Bool) (c : Dev nD) (h : Fin 3), (prev true b)^[h.val + 1] c ≠ c := by decide +kernel
theorem plane_from : ∀ (b : Bool) (c : Dev nD) (h : Fin 7), (pos ((prev false b)^[h.val + 1] c)).val = ix false b h.val c := by decide +kernel
theorem plane_ne : ∀ (b : Bool) (c : Dev nD) (h : Fin 7), pos ((prev false b)^[h.val + 1] c) ≠ pos c := by decide +kernel

theorem Has_push (l : Lk) (hl : l.1.ag = true) (c : Dev nD) (i : S2048x2048.Idx) (hi : Has c (ord l + 1) i) : Has c (ord l) i ∨ brings l c i := by
  rcases hi with h | ⟨l', ha, ho, hb⟩
  · exact .inl (.inl h)
  · rcases Nat.eq_or_lt_of_le (Nat.lt_succ_iff.mp ho) with h | h
    · rw [ord_inj _ _ h] at hb; exact .inr hb
    · exact .inl (.inr ⟨l', ha, h, hb⟩)

theorem Rows_push (b : Bool) (c : Dev nD) (n : ℕ) (i : S256x1024.Idx) (hi : Rows b c (n + 1) i) : Rows b c n i ∨ (rowPlane (i 0)).val = ix true b n c := by
  rcases hi with h | ⟨m, hm, hb⟩
  · exact .inl (.inl h)
  · rcases Nat.eq_or_lt_of_le (Nat.lt_succ_iff.mp hm) with h | h
    · rw [h] at hb; exact .inr hb
    · exact .inl (.inr ⟨m, h, hb⟩)

theorem half_col (b : Bool) (j : Fin 2048) (hj : side j = b) : (bif b then 1024 else 0) ≤ j.val ∧ j.val < (bif b then 1024 else 0) + 1024 := by
  have := j.isLt
  subst hj
  by_cases h : 1024 ≤ j.val
  · rw [show side j = true from decide_eq_true h]; exact ⟨h, by show j.val < 2048; omega⟩
  · rw [show side j = false from decide_eq_false h]; exact ⟨Nat.zero_le _, by show j.val < 0 + 1024; omega⟩

theorem side_at (b : Bool) (j : Fin 2048) (k : ℕ) (hk : k < 1024) (h : j.val = (bif b then 1024 else 0) + k) : side j = b := by
  cases b
  · exact decide_eq_false (by simp only [cond_false] at h; omega)
  · exact decide_eq_true (by simp only [cond_true] at h; omega)

theorem colIn_at (b : Bool) (j : Fin 2048) (k : Fin 1024) (h : j.val = (bif b then 1024 else 0) + k.val) : colIn j.val = k := by
  have := k.isLt
  refine Fin.ext ?_
  show j.val % 1024 = k.val
  cases b
  · simp only [cond_false] at h; omega
  · simp only [cond_true] at h; omega

/-! ## The rectangles of the result -/

section Rects
variable (b : Bool) (c : Dev nD)

theorem zcol_inb (h : Fin 3) : ∀ a, (![256 * (pos c).val + 64 * ix true b h.val c, bif b then 1024 else 0] : Fin 2 → Nat) a + S64x1024.size a
    ≤ S2048x2048.size a := zout_eq b c h ▸ zout_inb b c h
theorem pcol_inb (h : Fin 7) : ∀ a, (![256 * ix false b h.val c, bif b then 1024 else 0] : Fin 2 → Nat) a + S256x1024.size a
    ≤ S2048x2048.size a := pout_eq b c h ▸ pout_inb b c h

/-- Where a column gather's block goes, -/
abbrev zcol (h : Fin 3) : Rect S2048x2048 :=
  Rect.unit (s := S2048x2048) ![256 * (pos c).val + 64 * ix true b h.val c, bif b then 1024 else 0] S64x1024.size (zcol_inb b c h)
/-- and a plane gather's. -/
abbrev pcol (h : Fin 7) : Rect S2048x2048 :=
  Rect.unit (s := S2048x2048) ![256 * ix false b h.val c, bif b then 1024 else 0] S256x1024.size (pcol_inb b c h)

theorem zcol_mem (h : Fin 3) (i : S2048x2048.Idx) (hi : brings ⟨zG b, h⟩ c i) : i ∈ (zcol b c h).set := by
  obtain ⟨hs, ho⟩ := hi
  change owner (i 0) = (prev true b)^[h.val + 1] c at ho
  rw [← col_from] at ho
  have hp : (i 0).val / 256 = (pos c).val := by
    have := congrArg (fun d => (pos d).val) ho; unfold owner at this; simpa only [pos_devAt] using this
  have hl : (i 0).val % 256 / 64 = ix true b h.val c := by
    have := congrArg (fun d => (lay d).val) ho; unfold owner at this; simpa only [lay_devAt] using this
  have hc := half_col b (i 1) hs
  rw [Rect.mem_set_unit]
  intro a
  fin_cases a
  · show 256 * (pos c).val + 64 * ix true b h.val c ≤ (i 0).val ∧ (i 0).val < 256 * (pos c).val + 64 * ix true b h.val c + 64; omega
  · exact hc

theorem pcol_mem (h : Fin 7) (i : S2048x2048.Idx) (hi : brings ⟨pG b, h⟩ c i) : i ∈ (pcol b c h).set := by
  obtain ⟨hs, ho⟩ := hi
  change pos (owner (i 0)) = pos ((prev false b)^[h.val + 1] c) at ho
  have hp : (i 0).val / 256 = ix false b h.val c := by
    have := congrArg Fin.val ho
    rw [plane_from] at this
    unfold owner at this
    simpa only [pos_devAt] using this
  have hc := half_col b (i 1) hs
  rw [Rect.mem_set_unit]
  intro a
  fin_cases a
  · show 256 * ix false b h.val c ≤ (i 0).val ∧ (i 0).val < 256 * ix false b h.val c + 256; omega
  · exact hc

theorem target_zcol (h : Fin 3) (j : S64x1024.Idx) :
    up (half X W b ((prev true b)^[h.val + 1] c)) j = target X W c ((zcol b c h).emb j) := by
  have h0 : (((zcol b c h).emb j) 0).val = 256 * (pos c).val + 64 * ix true b h.val c + (j 0).val := emb2 _ j 0
  have h1 : (((zcol b c h).emb j) 1).val = (bif b then 1024 else 0) + (j 1).val := emb2 _ j 1
  have hj : (j 0).val < 64 := (j 0).isLt
  have ho : owner (((zcol b c h).emb j) 0) = (prev true b)^[h.val + 1] c :=
    (owner_at _ (pos c) ⟨_, ix_lt true b h.val c⟩ _ hj h0).trans (col_from b c h)
  unfold target
  rw [ho, if_neg (col_ne b c h), side_at b _ _ (j 1).isLt h1]
  congr 1
  funext a
  fin_cases a
  · exact Fin.ext (by show (j 0).val = _ % 64; rw [h0]; omega)
  · exact (colIn_at b _ (j 1) h1).symm

theorem target_pcol (h : Fin 7) (j : S256x1024.Idx) :
    up (column X W b ((prev false b)^[h.val + 1] c)) j = target X W c ((pcol b c h).emb j) := by
  have h0 : (((pcol b c h).emb j) 0).val = 256 * ix false b h.val c + (j 0).val := emb2 _ j 0
  have h1 : (((pcol b c h).emb j) 1).val = (bif b then 1024 else 0) + (j 1).val := emb2 _ j 1
  have hj : (j 0).val < 256 := (j 0).isLt
  have hr : (rowPlane (j 0)).val = (j 0).val / 64 := rfl
  have ho : owner (((pcol b c h).emb j) 0) = devAt (pos ((prev false b)^[h.val + 1] c)) (rowPlane (j 0)) :=
    owner_at _ _ _ ((j 0).val % 64) (Nat.mod_lt _ (by decide)) (by rw [h0, plane_from, hr]; omega)
  unfold target
  rw [ho, if_neg (fun e => plane_ne b c h (by rw [← pos_devAt (pos ((prev false b)^[h.val + 1] c)) (rowPlane (j 0)), e])),
    side_at b _ _ (j 1).isLt h1]
  show up (column X W b ((prev false b)^[h.val + 1] c)) j = up (half X W b _) _
  refine congrArg (fun v : F .bf16 => FloatOps.extf (F := F) .f32 bitsLt_bf16_f32 v) ?_
  unfold column
  congr 1
  funext a
  fin_cases a
  · exact Fin.ext (by show (j 0).val % 64 = _ % 64; rw [h0]; omega)
  · exact (colIn_at b _ (j 1) h1).symm

end Rects

/-! ## The rules -/

section Rules
variable (K : Dev nD × CI → ℕ) (c : Dev nD)

/-- What a gather's step brings, the next one sends. -/
theorem pass (z b : Bool) (t : ℕ) (h : t + 1 < lenZ z) : recvPay X W ⟨⟨true, z, b⟩, ⟨t, Nat.lt_of_succ_lt h⟩⟩ c ⊢ sendPay X W ⟨⟨true, z, b⟩, ⟨t + 1, h⟩⟩ c :=
  Entails.of_eq rfl

/-- Get a gather channel's source back, and close the transfer. -/
theorem sentG_op (z b : Bool) (t : Fin (lenZ z)) {n : ℕ} {Φ : PUnit → sProp 𝕄} :
    iprop(ctx X W K ∗ owing c (owedFrom c n) ∗ sentWait ⟨⟨true, z, b⟩, t⟩ c ∗ atPos ER (recvCell c ⟨⟨true, z, b⟩, t⟩) 1 ∅ 0)
      ⊢ iprop((owing c (owedFrom c n) ∗ doneRes ⟨⟨true, z, b⟩, t⟩ c -∗ Φ ⟨⟩)
        -∗ WP c (sentOp ⟨true, z, b⟩ t) Φ) := by
  iintro ⟨#HC, HO, Hw, Ha⟩ Hk
  iapply (sent_op X W K c ⟨true, z, b⟩ t) $$ [HO Hw]
  · isplitr; · iexact HC
    isplitl [HO]; · iexact HO
    iexact Hw
  iintro ⟨HO, Hs, Hsrc⟩
  iapply Hk
  isplitl [HO]; · iexact HO
  unfold doneRes left
  isplitl [Hs]; · iexact Hs
  isplitl [Ha]; · iexact Ha
  unfold sendPay
  iexists _; iexact Hsrc

/-- One direction of a column gather's step. -/
theorem colTake_op (b : Bool) (h : Fin 3) {n N : ℕ} (hn : n = ord ⟨zG b, h⟩) (hN : ord ⟨zG b, h⟩ / 2 + 2 < N / 2 + 2) {Φ : PUnit → sProp 𝕄} :
    iprop(ctx X W K ∗ owing c (owedFrom c N) ∗ recvWait ⟨zG b, h⟩ c ∗ outAt X W c n ∗ gsrcAt X W b c h.val)
      ⊢ iprop((owing c (owedFrom c N) ∗ atPos ER (recvCell c ⟨zG b, h⟩) 1 ∅ 0 ∗ recvPay X W ⟨zG b, h⟩ c
          ∗ outAt X W c (n + 1) ∗ gsrcAt X W b c (h.val + 1) -∗ Φ ⟨⟩)
        -∗ WP c (colTake c b h) Φ) := by
  have hD : ∀ i, Rows b c (h.val + 1) i → Rows b c h.val i
      ∨ i ∈ (Rect.unit (s := S256x1024) ![64 * ix true b h.val c, 0] S64x1024.size (zrow_inb (ix_lt true b h.val c))).set :=
    fun i hi => (Rows_push b c h.val i hi).imp_right fun e => column_mem (ix_lt true b h.val c) i e
  have hw := fun j => column_at X W c b (ix_lt true b h.val c) _ (col_from b c h) j
  have hD' : ∀ i, Has c (n + 1) i → Has c n i ∨ i ∈ (zcol b c h).set := by
    subst hn
    exact fun i hi => (Has_push ⟨zG b, h⟩ rfl c i hi).imp_right (zcol_mem b c h i)
  iintro ⟨#HC, HO, Hr, Hout, Hg⟩ Hk
  unfold colTake outAt gsrcAt
  iapply (wp_seq c)
  iapply (recv_op X W K c (zG b) h hN) $$ [HO Hr]
  · isplitr; · iexact HC
    isplitl [HO]; · iexact HO
    iexact Hr
  iintro ⟨HO, Ha, Hp⟩
  iapply (wp_seq c)
  unfold recvPay
  iapply (loadSlot_op c (zG b) h (recvVal X W (zG b) h.val c)) $$ Hp
  iintro %v %hv Hp
  have hv' : unslot true v = half X W b ((prev true b)^[h.val + 1] c) := hv
  rw [hv']
  iapply (wp_seq c)
  iapply (storeOut_op c (zout_inb b c h) (zout_eq b c h) (zcol_inb b c h) (target X W c) (Has c n) (Has c (n + 1)) (target_zcol X W b c h) hD') $$ Hout
  iintro Hout
  iapply (storeGsrc_op c b (zgsrc_inb b c h) (zgsrc_eq b c h) (zrow_inb (ix_lt true b h.val c)) (column X W b c) (Rows b c h.val) (Rows b c (h.val + 1))
    hw hD) $$ Hg
  iintro Hg
  iapply Hk
  isplitl [HO]; · iexact HO
  isplitl [Ha]; · iexact Ha
  isplitl [Hp]; · iexact Hp
  isplitl [Hout]; · iexact Hout
  iexact Hg

/-- One direction of a plane gather's step. -/
theorem planeTake_op (b : Bool) (h : Fin 7) {n N : ℕ} (hn : n = ord ⟨pG b, h⟩) (hN : ord ⟨pG b, h⟩ / 2 + 2 < N / 2 + 2) {Φ : PUnit → sProp 𝕄} :
    iprop(ctx X W K ∗ owing c (owedFrom c N) ∗ recvWait ⟨pG b, h⟩ c ∗ outAt X W c n)
      ⊢ iprop((owing c (owedFrom c N) ∗ atPos ER (recvCell c ⟨pG b, h⟩) 1 ∅ 0 ∗ recvPay X W ⟨pG b, h⟩ c ∗ outAt X W c (n + 1) -∗ Φ ⟨⟩)
        -∗ WP c (planeTake c b h) Φ) := by
  have hD' : ∀ i, Has c (n + 1) i → Has c n i ∨ i ∈ (pcol b c h).set := by
    subst hn
    exact fun i hi => (Has_push ⟨pG b, h⟩ rfl c i hi).imp_right (pcol_mem b c h i)
  iintro ⟨#HC, HO, Hr, Hout⟩ Hk
  unfold planeTake outAt
  iapply (wp_seq c)
  iapply (recv_op X W K c (pG b) h hN) $$ [HO Hr]
  · isplitr; · iexact HC
    isplitl [HO]; · iexact HO
    iexact Hr
  iintro ⟨HO, Ha, Hp⟩
  iapply (wp_seq c)
  unfold recvPay
  iapply (loadSlot_op c (pG b) h (recvVal X W (pG b) h.val c)) $$ Hp
  iintro %v %hv Hp
  have hv' : unslot false v = column X W b ((prev false b)^[h.val + 1] c) := hv
  rw [hv']
  iapply (storeOut_op c (pout_inb b c h) (pout_eq b c h) (pcol_inb b c h) (target X W c) (Has c n) (Has c (n + 1)) (target_pcol X W b c h) hD') $$ Hout
  iintro Hout
  iapply Hk
  isplitl [HO]; · iexact HO
  isplitl [Ha]; · iexact Ha
  isplitl [Hp]; · iexact Hp
  iexact Hout

/-- A step of the column gather. -/
theorem colGather_op (h : Fin 3) {dA dB : Dev nD} (hA : dA = peer true false c) (hB : dB = peer true true c)
    {n : ℕ} (hn : n = ord ⟨zG false, h⟩) {Φ : PUnit → sProp 𝕄} :
    iprop(ctx X W K ∗ At c n ∗ sendPay X W ⟨zG false, h⟩ c ∗ sendPay X W ⟨zG true, h⟩ c ∗ outAt X W c n ∗ gsrcAt X W false c h.val ∗ gsrcAt X W true c h.val)
      ⊢ iprop((At c (n + 2) ∗ recvPay X W ⟨zG false, h⟩ c ∗ recvPay X W ⟨zG true, h⟩ c ∗ outAt X W c (n + 2) ∗ gsrcAt X W false c (h.val + 1) ∗ gsrcAt X W true c (h.val + 1) -∗ Φ ⟨⟩)
        -∗ WP c (colGather c h dA dB) Φ) := by
  have ho (b : Bool) : ord ⟨zG b, h⟩ / 2 + 2 < (n + 2) / 2 + 2 := by rw [hn]; exact ord_before true true b h
  have hn' : n + 1 = ord ⟨zG true, h⟩ := by rw [hn]; rfl
  iintro ⟨#HC, HA, HsA, HsB, Hout, HGA, HGB⟩ Hk
  unfold colGather
  iapply (sends_op X W K c true true h hA hB hn) $$ [HA HsA HsB]
  · isplitr; · iexact HC
    isplitl [HA]; · iexact HA
    isplitl [HsA]; · iexact HsA
    iexact HsB
  iintro ⟨HO, ⟨HrA, HwA⟩, ⟨HrB, HwB⟩, Hl, Hd⟩
  iapply (wp_seq c)
  iapply (colTake_op X W K c false h hn (ho false)) $$ [HO HrA Hout HGA]
  · isplitr; · iexact HC
    isplitl [HO]; · iexact HO
    isplitl [HrA]; · iexact HrA
    isplitl [Hout]; · iexact Hout
    iexact HGA
  iintro ⟨HO, HaA, HpA, Hout, HGA⟩
  iapply (wp_seq c)
  iapply (colTake_op X W K c true h hn' (ho true)) $$ [HO HrB Hout HGB]
  · isplitr; · iexact HC
    isplitl [HO]; · iexact HO
    isplitl [HrB]; · iexact HrB
    isplitl [Hout]; · iexact Hout
    iexact HGB
  iintro ⟨HO, HaB, HpB, Hout, HGB⟩
  iapply (wp_seq c)
  iapply (sentG_op X W K c true false h) $$ [HO HwA HaA]
  · isplitr; · iexact HC
    isplitl [HO]; · iexact HO
    isplitl [HwA]; · iexact HwA
    iexact HaA
  iintro ⟨HO, HdA⟩
  iapply (sentG_op X W K c true true h) $$ [HO HwB HaB]
  · isplitr; · iexact HC
    isplitl [HO]; · iexact HO
    isplitl [HwB]; · iexact HwB
    iexact HaB
  iintro ⟨HO, HdB⟩
  iapply Hk
  isplitl [HdA HdB HO Hl Hd]
  · iapply (At_push c true true h hn)
    isplitl [HdA]; · iexact HdA
    isplitl [HdB]; · iexact HdB
    isplitl [HO]; · iexact HO
    isplitl [Hl]; · iexact Hl
    iexact Hd
  isplitl [HpA]; · iexact HpA
  isplitl [HpB]; · iexact HpB
  isplitl [Hout]; · iexact Hout
  isplitl [HGA]; · iexact HGA
  iexact HGB

/-- A step of the plane gather. -/
theorem planeGather_op (h : Fin 7) {dA dB : Dev nD} (hA : dA = peer false false c) (hB : dB = peer false true c)
    {n : ℕ} (hn : n = ord ⟨pG false, h⟩) {Φ : PUnit → sProp 𝕄} :
    iprop(ctx X W K ∗ At c n ∗ sendPay X W ⟨pG false, h⟩ c ∗ sendPay X W ⟨pG true, h⟩ c ∗ outAt X W c n )
      ⊢ iprop((At c (n + 2) ∗ recvPay X W ⟨pG false, h⟩ c ∗ recvPay X W ⟨pG true, h⟩ c ∗ outAt X W c (n + 2)  -∗ Φ ⟨⟩)
        -∗ WP c (planeGather c h dA dB) Φ) := by
  have ho (b : Bool) : ord ⟨pG b, h⟩ / 2 + 2 < (n + 2) / 2 + 2 := by rw [hn]; exact ord_before true false b h
  have hn' : n + 1 = ord ⟨pG true, h⟩ := by rw [hn]; rfl
  iintro ⟨#HC, HA, HsA, HsB, Hout⟩ Hk
  unfold planeGather
  iapply (sends_op X W K c true false h hA hB hn) $$ [HA HsA HsB]
  · isplitr; · iexact HC
    isplitl [HA]; · iexact HA
    isplitl [HsA]; · iexact HsA
    iexact HsB
  iintro ⟨HO, ⟨HrA, HwA⟩, ⟨HrB, HwB⟩, Hl, Hd⟩
  iapply (wp_seq c)
  iapply (planeTake_op X W K c false h hn (ho false)) $$ [HO HrA Hout]
  · isplitr; · iexact HC
    isplitl [HO]; · iexact HO
    isplitl [HrA]; · iexact HrA
    iexact Hout
  iintro ⟨HO, HaA, HpA, Hout⟩
  iapply (wp_seq c)
  iapply (planeTake_op X W K c true h hn' (ho true)) $$ [HO HrB Hout]
  · isplitr; · iexact HC
    isplitl [HO]; · iexact HO
    isplitl [HrB]; · iexact HrB
    iexact Hout
  iintro ⟨HO, HaB, HpB, Hout⟩
  iapply (wp_seq c)
  iapply (sentG_op X W K c false false h) $$ [HO HwA HaA]
  · isplitr; · iexact HC
    isplitl [HO]; · iexact HO
    isplitl [HwA]; · iexact HwA
    iexact HaA
  iintro ⟨HO, HdA⟩
  iapply (sentG_op X W K c false true h) $$ [HO HwB HaB]
  · isplitr; · iexact HC
    isplitl [HO]; · iexact HO
    isplitl [HwB]; · iexact HwB
    iexact HaB
  iintro ⟨HO, HdB⟩
  iapply Hk
  isplitl [HdA HdB HO Hl Hd]
  · iapply (At_push c true false h hn)
    isplitl [HdA]; · iexact HdA
    isplitl [HdB]; · iexact HdB
    isplitl [HO]; · iexact HO
    isplitl [Hl]; · iexact Hl
    iexact Hd
  isplitl [HpA]; · iexact HpA
  isplitl [HpB]; · iexact HpB
  iexact Hout

end Rules

/-! ## In the end everything is there -/

theorem rows_all (b : Bool) (c : Dev nD) (i : S256x1024.Idx) : Rows b c 3 i := by
  have key : ∀ (b : Bool) (c : Dev nD) (n : Fin 4), n = lay c ∨ ∃ h : Fin 3, n.val = ix true b h.val c := by decide +kernel
  rcases key b c (rowPlane (i 0)) with h | ⟨h, e⟩
  · exact .inl h
  · exact .inr ⟨h.val, h.isLt, e⟩

theorem has_all (c : Dev nD) (i : S2048x2048.Idx) : Has c 40 i := by
  have key : ∀ (b : Bool) (c d : Dev nD), d = c ∨ (∃ h : Fin 3, d = (prev true b)^[h.val + 1] c)
      ∨ ∃ h : Fin 7, pos d = pos ((prev false b)^[h.val + 1] c) := by decide +kernel
  rcases key (side (i 1)) c (owner (i 0)) with h | ⟨h, e⟩ | ⟨h, e⟩
  · exact .inl h
  · exact .inr ⟨⟨zG (side (i 1)), h⟩, rfl, ord_lt _, rfl, e⟩
  · exact .inr ⟨⟨pG (side (i 1)), h⟩, rfl, ord_lt _, rfl, e⟩

end Cert.KernelIdeal.Ring

end
-- ==== Proof.Handshake.lean ====
/-
# Slots of a buffer, and the handshake

A buffer of several slots is held slot by slot, and its slots together are the buffer. At the start a device
hands each neighbour, with its signal, the slots that the neighbour will fill, and once it has waited for all
four it holds the slots it will fill itself.
-/
module

public import proofs.«01_k».proof.Proof.Gather

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

/-! ## Slots -/

section Slots
variable (c : Dev nD) {n : ℕ} {z : Bool} (m : Memref sig .tc .vmem (bufShp n z) .bf16)

theorem slotR_disjoint (t t' : Fin n) (h : t ≠ t') : Disjoint (slotR z t).set (slotR z t').set := by
  rw [Finset.disjoint_left]
  intro i hi hi'
  rw [Rect.mem_set_unit] at hi hi'
  have h0 : t.val ≤ (i 0).val ∧ (i 0).val < t.val + 1 := hi 0
  have h1 : t'.val ≤ (i 0).val ∧ (i 0).val < t'.val + 1 := hi' 0
  exact h (Fin.ext (by omega))

theorem slotR_cover : (Finset.univ : Finset (Fin n)).biUnion (fun t => (slotR z t).set) = Finset.univ := by
  refine Finset.eq_univ_iff_forall.mpr fun i => ?_
  rw [Finset.mem_biUnion]
  refine ⟨i 0, Finset.mem_univ _, ?_⟩
  rw [Rect.mem_set_unit]
  intro a
  have := (i a).isLt
  fin_cases a
  · show (i 0).val ≤ (i 0).val ∧ (i 0).val < (i 0).val + 1; omega
  · exact ⟨Nat.zero_le _, (Nat.zero_add _).symm ▸ (i 1).isLt⟩
  · exact ⟨Nat.zero_le _, (Nat.zero_add _).symm ▸ (i 2).isLt⟩

theorem slot_set_map (t : Fin n) : (slotOf m t).view.set = (slotR z t).set.map m.view.emb :=
  (slot_set (m := m) t).trans (View.set_slice _ _)

theorem slots_disjoint (t t' : Fin n) (h : t ≠ t') : Disjoint (slotOf m t).view.set (slotOf m t').view.set := by
  rw [slot_set_map, slot_set_map]
  exact (Finset.disjoint_map _).mpr (slotR_disjoint t t' h)

theorem slots_cover : (Finset.univ : Finset (Fin n)).biUnion (fun t => (slotOf m t).view.set) = m.view.set := by
  rw [Finset.biUnion_congr rfl fun t _ => slot_set_map m t]
  ext j
  simp only [Finset.mem_biUnion, Finset.mem_univ, true_and, Finset.mem_map, View.set]
  constructor
  · rintro ⟨t, i, -, rfl⟩
    exact ⟨i, rfl⟩
  · rintro ⟨i, rfl⟩
    obtain ⟨t, -, ht⟩ := Finset.mem_biUnion.mp (slotR_cover (n := n) (z := z) ▸ Finset.mem_univ i)
    exact ⟨t, i, ht, rfl⟩

theorem slot_some (t : Fin n) (f : m.view.ty.Contents (Elt F)) :
    (m.view.loc (c : Thread nD τ) ↦[(slotOf m t).view.set]{fullShare} f : sProp 𝕄) ⊢ some' c (slotOf m t) :=
  (owns_intro (c : Thread nD τ) (slotOf m t) fullShare f).trans (some_of c (slotOf m t) _)
theorem some_slot (t : Fin n) : some' c (slotOf m t)
    ⊢ (iprop(∃ f : Buf (Elt F) (m.view.loc (c : Thread nD τ)), m.view.loc (c : Thread nD τ) ↦[(slotOf m t).view.set]{fullShare} f) : sProp 𝕄) := by
  unfold some' own ownsTc owns
  iintro ⟨%Y, %f, -, H⟩
  iexists f
  iexact H

/-- A buffer is its slots, -/
theorem slots_split : some' c m ⊢ bigSep Finset.univ fun t : Fin n => some' (F := F) c (slotOf m t) := by
  have e (f : Buf (Elt F) (m.view.loc (c : Thread nD τ))) : (m.view.loc (c : Thread nD τ) ↦[m.view.set]{fullShare} f : sProp 𝕄)
      ⊢ bigSep Finset.univ fun t : Fin n => some' (F := F) c (slotOf m t) :=
    (Entails.of_eq (Idealize.ShloMosaic.Ring.pointsTo_sub_blocks (ℓ := m.view.loc (c : Thread nD τ)) (fun t : Fin n => (slotOf m t).view.set)
      (slots_disjoint m) m.view.set (slots_cover m) f)).trans (bigSep_mono fun t _ => slot_some c m t f)
  iintro ⟨%Y, H⟩
  ihave H' := (show own c m Y ⊢ iprop(∃ f, ⌜m.view.read (Elt F) f = Y⌝ ∗ (m.view.loc (c : Thread nD τ) ↦[m.view.set]{fullShare} f)) from .rfl) $$ H
  icases H' with ⟨%f, -, H⟩
  iapply (e f)
  iexact H

/-- and its slots, whatever they hold, are the buffer. -/
theorem slots_join : (bigSep Finset.univ fun t : Fin n => some' (F := F) c (slotOf m t)) ⊢ some' c m := by
  have f₀ : Buf (Elt F) (m.view.loc (c : Thread nD τ)) := Classical.arbitrary _
  have e (g : Buf (Elt F) (m.view.loc (c : Thread nD τ))) : (m.view.loc (c : Thread nD τ) ↦[m.view.set]{fullShare} g : sProp 𝕄) ⊢ some' c m :=
    (owns_intro (c : Thread nD τ) m fullShare g).trans (some_of c m _)
  refine (bigSep_mono fun t _ => some_slot c m t).trans
    ((Idealize.ShloMosaic.Ring.pointsTo_sub_blocks_join_exists (ℓ := m.view.loc (c : Thread nD τ)) (fun t : Fin n => (slotOf m t).view.set)
      (slots_disjoint m) m.view.set (slots_cover m) f₀).trans ?_)
  iintro ⟨%g, H⟩
  iapply (e g)
  iexact H

end Slots

/-! ## The handshake -/

/-- The slots of a device that the neighbour against direction `b` of ring `z` fills. -/
def land (z b : Bool) (c : Dev nD) : sProp 𝕄 :=
  bigSep Finset.univ fun a : Bool => bigSep Finset.univ fun t : Fin (lenZ z) => some' c (slotM ⟨a, z, b⟩ t)

theorem peer_back : ∀ z b c, peer z (!b) (peer z b c) = c := by decide +kernel

theorem land_pay (z b : Bool) (c : Dev nD) : land (F := F) z (!b) c = barPay z (!b) (peer z b c) := by
  unfold land barPay
  rw [peer_back]

theorem bar_mem (c : Dev nD) (d : Du) : d ∈ (sched X W).duties ((c : Thread nD τ), SemLoc.reg barS) 0 :=
  (duties_k X W c none).symm ▸ Finset.mem_univ d
theorem bar_pay (c : Dev nD) (d : Du) : (sched X W).payload ((c : Thread nD τ), SemLoc.reg barS) 0 d = barPay d.1 d.2 c := payload_k X W c none d
theorem bar_rest (c : Dev nD) : bigSep ((sched X W).duties ((c : Thread nD τ), SemLoc.reg barS) 0 \ ∅)
    (fun d => (sched X W).payload ((c : Thread nD τ), SemLoc.reg barS) 0 d) = bigSep Finset.univ fun d : Du => barPay d.1 d.2 c := rest_bar X W c

section Rules
variable (K : Dev nD × CI → ℕ) (c : Dev nD)

/-- Signal a neighbour and hand it its slots. -/
theorem signal_op (z b : Bool) {n : Dev nD} (hn : n = peer z b c) (O : CellTallies nD τ sig Unit) {Φ : PUnit → sProp 𝕄} :
    iprop(ctx X W K ∗ owing c (O + barTo z b c) ∗ dutyTok ER (barCell (peer z b c)) 0 (z, !b) ∗ land z (!b) c)
      ⊢ iprop((owing c O -∗ Φ ⟨⟩) -∗ WP c (semSignalWord n barS 1#32) Φ) := by
  subst hn
  unfold owing
  iintro ⟨#HC, ⟨%Wt, HO⟩, Ht, Hl⟩ Hk
  simp only [semSignalWord]
  iapply (Rounds.wp_signal 𝒱₀ ER (sched X W) (c : Thread nD τ) none (dst := (peer z b c : Thread nD τ)) (κ := K (peer z b c, none))
      (d := (z, !b)) (bar_mem X W (peer z b c) (z, !b)) ((amount_k X W (peer z b c) none (z, !b)).trans (by decide)) () O rfl)
    $$ [HO Ht Hl]
  · isplitr; · iapply (ctx_inv X W K (peer z b c, none)); iexact HC
    isplitl [HO]; · iexact HO
    isplitl [Ht]; · iexact Ht
    isplitl [Hl]
    · ihave Hl' := (Entails.of_eq ((land_pay z b c).trans (bar_pay X W (peer z b c) (z, !b)).symm)) $$ Hl
      iexact Hl'
    iapply (ctx_reached X W K (peer z b c, none)); iexact HC
  iintro HO
  rw [wp_ret]
  imodintro
  iapply Hk
  iexists Wt
  iexact HO

/-- Wait for the four neighbours: their slots come with it. -/
theorem barwait_op {Φ : PUnit → sProp 𝕄} :
    iprop(ctx X W K ∗ owing c (owedFrom c 0) ∗ atPos ER (barCell c) 0 ∅ 0 ∗ cred (tallyAt (barCell c) () 4))
      ⊢ iprop((owing c (owedFrom c 0) ∗ atPos ER (barCell c) 1 ∅ 0 ∗ (bigSep Finset.univ fun d : Du => barPay d.1 d.2 c) -∗ Φ ⟨⟩)
        -∗ WP c (semWaitWord barS 4#32) Φ) := by
  unfold owing
  iintro ⟨#HC, ⟨%Wt, HO⟩, Ha, Hc⟩ Hk
  simp only [semWaitWord]
  iapply (Rounds.wp_wait_rest_token 𝒱₀ ER (sched X W) (c : Thread nD τ) none (κ := K (c, none))
      (wpE_semWait_eq 𝒱₀ (c : Thread nD τ) none Set.univ) (Set.mem_univ _) () (O := owedFrom c 0) (W := Wt) (R := 0) (m := 0) (T := ∅)
      ((by decide : 0 + (4#32).toNat = 4).trans (expect_bar X W c).symm)) $$ [Ha Hc HO]
  · isplitr; · iapply (ctx_inv X W K (c, none)); iexact HC
    isplitl [Hc]; · iexact Hc
    isplitl [HO]; · iexact HO
    isplitr
    · iapply (mayWait_owed c (csem none) 0 1 (by rw [ciOf_csem]; exact Nat.le_refl _) (by decide))
      iapply (ctx_lev X W K); iexact HC
    iexact Ha
  iintro ⟨HO, Ha, -, Hp⟩
  ihave Hp' := (Entails.of_eq (bar_rest X W c)) $$ Hp
  rw [wp_ret]
  imodintro
  iapply Hk
  isplitl [HO]; · iexists _; iexact HO
  isplitl [Ha]; · iexact Ha
  iexact Hp'

end Rules

/-- A channel's three marks. -/
def chEquiv : Bool × Bool × Bool ≃ Ch :=
  ⟨fun p => ⟨p.2.2, p.1, p.2.1⟩, fun k => (k.z, k.b, k.ag), fun _ => rfl, fun _ => rfl⟩

/-- The four neighbours' slots are those of all transfers. -/
theorem slots_links (c : Dev nD) : (bigSep Finset.univ fun d : Du => barPay (F := F) d.1 d.2 c)
    = bigSep Finset.univ fun l : Lk => some' (dst l c) (slotM l.1 l.2) := by
  rw [Pipeline.bigSep_univ_sigma, bigSep_univ_equiv chEquiv (fun k : Ch => bigSep Finset.univ fun t : Fin k.len => some' (F := F) (dst ⟨k, t⟩ c) (slotM k t)), bigSep_univ_prod, bigSep_univ_prod]
  refine bigSep_congr fun z _ => ?_
  rw [bigSep_univ_prod]
  rfl

/-- What a device holds at the launch for its transfers and the handshake. -/
def start₀ (c : Dev nD) : sProp 𝕄 :=
  iprop((bigSep Finset.univ fun l : Lk => linkRes₀ l c)
    ∗ (dutyTok ER (barCell (peer false false c)) 0 (false, true) ∗ dutyTok ER (barCell (peer false true c)) 0 (false, false)
      ∗ dutyTok ER (barCell (peer true false c)) 0 (true, true) ∗ dutyTok ER (barCell (peer true true c)) 0 (true, false))
    ∗ atPos ER (barCell c) 0 ∅ 0 ∗ cred (tallyAt (barCell c) () 4))

theorem links_start (c : Dev nD) : iprop((bigSep Finset.univ fun l : Lk => linkRes₀ l c) ∗ bigSep Finset.univ fun l : Lk => some' (dst l c) (slotM l.1 l.2))
    ⊢ links (F := F) c 0 := by
  unfold links linkRes
  rw [Finset.filter_true_of_mem fun l _ => Nat.zero_le _, bigSep_sep']

theorem done_start (c : Dev nD) : (iprop(emp) : sProp 𝕄) ⊢ done c 0 := by
  unfold done
  rw [Finset.filter_false_of_mem fun l _ => Nat.not_lt_zero _, bigSep_empty]
  exact Entails.of_eq rfl

theorem devs (c : Dev nD) : (⟨k0_dev1 c, k0_dev1_lt c⟩ : Dev nD) = peer false false c ∧ (⟨k0_dev2 c, k0_dev2_lt c⟩ : Dev nD) = peer false true c
    ∧ (⟨k0_dev3 c, k0_dev3_lt c⟩ : Dev nD) = peer true false c ∧ (⟨k0_dev4 c, k0_dev4_lt c⟩ : Dev nD) = peer true true c :=
  ⟨Fin.ext (devP_false c _ (by simp)), Fin.ext (devP_true c _ (by simp)), Fin.ext (devZ_false c _ (by simp)), Fin.ext (devZ_true c _ (by simp))⟩

theorem handshake_op (K : Dev nD × CI → ℕ) (c : Dev nD) {Φ : PUnit → sProp 𝕄} :
    iprop(ctx X W K ∗ owing c (O₀ c) ∗ start₀ c ∗ land false false c ∗ land false true c ∗ land true false c ∗ land true true c)
      ⊢ iprop((At c 0 ∗ atPos ER (barCell c) 1 ∅ 0 -∗ Φ ⟨⟩) -∗ WP c (handshake c) Φ) := by
  unfold start₀
  iintro ⟨#HC, HO, ⟨HL, ⟨Ht1, Ht2, Ht3, Ht4⟩, Ha, Hc⟩, Hff, Hft, Htf, Htt⟩ Hk
  unfold handshake
  iapply (wp_seq c)
  iapply (signal_op X W K c false false (devs c).1 (O₁ c)) $$ [HO Ht1 Hft]
  · isplitr; · iexact HC
    isplitl [HO]; · iexact HO
    isplitl [Ht1]; · iexact Ht1
    iexact Hft
  iintro HO
  iapply (wp_seq c)
  iapply (signal_op X W K c false true (devs c).2.1 (O₂ c)) $$ [HO Ht2 Hff]
  · isplitr; · iexact HC
    isplitl [HO]; · iexact HO
    isplitl [Ht2]; · iexact Ht2
    iexact Hff
  iintro HO
  iapply (wp_seq c)
  iapply (signal_op X W K c true false (devs c).2.2.1 (O₃ c)) $$ [HO Ht3 Htt]
  · isplitr; · iexact HC
    isplitl [HO]; · iexact HO
    isplitl [Ht3]; · iexact Ht3
    iexact Htt
  iintro HO
  iapply (wp_seq c)
  iapply (signal_op X W K c true true (devs c).2.2.2 (owedFrom c 0)) $$ [HO Ht4 Htf]
  · isplitr; · iexact HC
    isplitl [HO]; · iexact HO
    isplitl [Ht4]; · iexact Ht4
    iexact Htf
  iintro HO
  iapply (barwait_op X W K c) $$ [HO Ha Hc]
  · isplitr; · iexact HC
    isplitl [HO]; · iexact HO
    isplitl [Ha]; · iexact Ha
    iexact Hc
  iintro ⟨HO, Ha, Hs⟩
  ihave Hs' := (Entails.of_eq (slots_links c)) $$ Hs
  iapply Hk
  isplitr [Ha]
  · unfold At
    isplitl [HL Hs']
    · iapply (links_start c)
      isplitl [HL]; · iexact HL
      iexact Hs'
    isplitl [HO]; · iexact HO
    iapply (done_start c)
    iempintro
  iexact Ha

end Cert.KernelIdeal.Ring

end
-- ==== Proof.Stages.lean ====
/-
# The kernel's run on one device

The kernel step by step, from the device's blocks of the operands and its buffers to the whole result. What the
device holds between two steps of a ring is one assertion per ring (`PlaneAt`, `ColAt`, `ColGAt`, `PlaneGAt`);
at the end every cell is a round on and all buffers are whole again.
-/
module

public import proofs.«01_k».proof.Proof.Handshake

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

/-! ## Buffers before and after -/

theorem bool_sep (Φ : Bool → sProp 𝕄) : bigSep Finset.univ Φ = iprop(Φ false ∗ Φ true) := by
  rw [show (Finset.univ : Finset Bool) = {false, true} by decide, bigSep_insert (by decide), bigSep_singleton]
  rfl

/-- The buffers of one direction of a ring. -/
def ringBufs (z b : Bool) (c : Dev nD) : sProp 𝕄 :=
  iprop(some' c (sbuf z b) ∗ some' c (rbuf ⟨false, z, b⟩) ∗ some' c (rbuf ⟨true, z, b⟩) ∗ some' c (gsrc z b))
/-- All buffers a device works in. -/
def scratch (c : Dev nD) : sProp 𝕄 :=
  iprop(ringBufs false false c ∗ ringBufs false true c ∗ ringBufs true false c ∗ ringBufs true true c
    ∗ some' c (plane false) ∗ some' c (plane true) ∗ some' c ownM)

theorem stg_split (z b : Bool) (c : Dev nD) : some' c (sbuf z b) ⊢ stgFree (F := F) z b c :=
  (slots_split c (sbuf z b)).trans (Entails.of_eq (bigSep_univ_two _))
theorem stg_join (z b : Bool) (c : Dev nD) : stgFree z b c ⊢ some' (F := F) c (sbuf z b) :=
  (Entails.of_eq (bigSep_univ_two _).symm).trans (slots_join c (sbuf z b))

theorem land_split (z b : Bool) (c : Dev nD) : iprop(some' c (rbuf ⟨false, z, b⟩) ∗ some' c (rbuf ⟨true, z, b⟩)) ⊢ land (F := F) z b c := by
  unfold land
  rw [bool_sep]
  iintro ⟨H0, H1⟩
  isplitl [H0]
  · iapply (slots_split c (rbuf ⟨false, z, b⟩)); iexact H0
  · iapply (slots_split c (rbuf ⟨true, z, b⟩)); iexact H1

/-- The last step of a ring. -/
def lastT (z : Bool) : Fin (lenZ z) := match z with
  | false => (6 : Fin 7)
  | true => (2 : Fin 3)

/-- What the transfers of one direction of a ring leave behind. -/
def lefts (z b : Bool) (c : Dev nD) : sProp 𝕄 :=
  bigSep Finset.univ fun a : Bool => bigSep Finset.univ fun t : Fin (lenZ z) => left ⟨⟨a, z, b⟩, t⟩ c

/-- The sources a gather channel has sent from, and the slot filled last, are its first source and its landing buffer. -/
theorem gather_close (z b : Bool) (c : Dev nD) :
    iprop((bigSep Finset.univ fun t : Fin (lenZ z) => some' c (srcM ⟨true, z, b⟩ t)) ∗ some' c (slotM ⟨true, z, b⟩ (lastT z)))
      ⊢ iprop(some' c (gsrc z b) ∗ bigSep Finset.univ fun t : Fin (lenZ z) => some' (F := F) c (slotM ⟨true, z, b⟩ t)) := by
  cases z
  · rw [bigSep_univ_eq_bigSepL ([0, 1, 2, 3, 4, 5, 6] : List (Fin 7)) (by decide) (by decide),
      bigSep_univ_eq_bigSepL ([0, 1, 2, 3, 4, 5, 6] : List (Fin 7)) (by decide) (by decide)]
    show iprop((some' c (gsrc false b) ∗ some' c (slotM (pG b) (0 : Fin 7)) ∗ some' c (slotM (pG b) (1 : Fin 7)) ∗ some' c (slotM (pG b) (2 : Fin 7))
        ∗ some' c (slotM (pG b) (3 : Fin 7)) ∗ some' c (slotM (pG b) (4 : Fin 7)) ∗ some' c (slotM (pG b) (5 : Fin 7))) ∗ some' c (slotM (pG b) (6 : Fin 7)))
      ⊢ iprop(some' c (gsrc false b) ∗ some' c (slotM (pG b) (0 : Fin 7)) ∗ some' c (slotM (pG b) (1 : Fin 7)) ∗ some' c (slotM (pG b) (2 : Fin 7))
        ∗ some' c (slotM (pG b) (3 : Fin 7)) ∗ some' c (slotM (pG b) (4 : Fin 7)) ∗ some' c (slotM (pG b) (5 : Fin 7)) ∗ some' (F := F) c (slotM (pG b) (6 : Fin 7)))
    iintro ⟨⟨H, H0, H1, H2, H3, H4, H5⟩, H6⟩
    isplitl [H]; · iexact H
    isplitl [H0]; · iexact H0
    isplitl [H1]; · iexact H1
    isplitl [H2]; · iexact H2
    isplitl [H3]; · iexact H3
    isplitl [H4]; · iexact H4
    isplitl [H5]; · iexact H5
    iexact H6
  · rw [bigSep_univ_eq_bigSepL ([0, 1, 2] : List (Fin 3)) (by decide) (by decide),
      bigSep_univ_eq_bigSepL ([0, 1, 2] : List (Fin 3)) (by decide) (by decide)]
    show iprop((some' c (gsrc true b) ∗ some' c (slotM (zG b) (0 : Fin 3)) ∗ some' c (slotM (zG b) (1 : Fin 3))) ∗ some' c (slotM (zG b) (2 : Fin 3)))
      ⊢ iprop(some' c (gsrc true b) ∗ some' c (slotM (zG b) (0 : Fin 3)) ∗ some' c (slotM (zG b) (1 : Fin 3)) ∗ some' (F := F) c (slotM (zG b) (2 : Fin 3)))
    iintro ⟨⟨H, H0, H1⟩, H2⟩
    isplitl [H]; · iexact H
    isplitl [H0]; · iexact H0
    isplitl [H1]; · iexact H1
    iexact H2

theorem ring_close (z b : Bool) (c : Dev nD) : iprop(stgFree z b c ∗ lefts z b c ∗ recvPay X W ⟨⟨true, z, b⟩, lastT z⟩ c) ⊢ ringBufs z b c := by
  unfold lefts ringBufs
  rw [bool_sep]
  iintro ⟨Hs, ⟨H0, H1⟩, Hr⟩
  isplitl [Hs]; · iapply (stg_join z b c); iexact Hs
  isplitl [H0]; · iapply (slots_join c (rbuf ⟨false, z, b⟩)); iexact H0
  ihave H := (gather_close z b c) $$ [H1 Hr]
  · isplitl [H1]; · iexact H1
    iapply (some_of c (slotM ⟨true, z, b⟩ (lastT z)) (recvVal X W ⟨true, z, b⟩ (lastT z).val c))
    iapply (show recvPay X W ⟨⟨true, z, b⟩, lastT z⟩ c ⊢ own c (slotM ⟨true, z, b⟩ (lastT z)) (recvVal X W ⟨true, z, b⟩ (lastT z).val c) from Entails.of_eq rfl)
    iexact Hr
  icases H with ⟨Hg, H⟩
  isplitl [H]; · iapply (slots_join c (rbuf ⟨true, z, b⟩)); iexact H
  iexact Hg

/-- Every transfer's two cells are a round on. -/
def closed (c : Dev nD) : sProp 𝕄 :=
  bigSep Finset.univ fun l : Lk => iprop(atPos ER (sendCell c l) 1 ∅ 0 ∗ atPos ER (recvCell c l) 1 ∅ 0)

theorem lefts_all (c : Dev nD) : (bigSep Finset.univ fun l : Lk => left (F := F) l c)
    = iprop(lefts false false c ∗ lefts false true c ∗ lefts true false c ∗ lefts true true c) := by
  rw [Pipeline.bigSep_univ_sigma, bigSep_univ_equiv chEquiv (fun k : Ch => bigSep Finset.univ fun t : Fin k.len => left (F := F) ⟨k, t⟩ c),
    bigSep_univ_prod]
  rw [show (bigSep Finset.univ fun z : Bool => bigSep Finset.univ fun p : Bool × Bool => bigSep Finset.univ fun t : Fin (chEquiv (z, p)).len =>
      left (F := F) ⟨chEquiv (z, p), t⟩ c) = bigSep Finset.univ fun z : Bool => bigSep Finset.univ fun b : Bool => lefts z b c from
    bigSep_congr fun z _ => (bigSep_univ_prod _).trans rfl]
  rw [bool_sep, bool_sep, bool_sep]
  refine BI.equiv_iff.mp ⟨?_, ?_⟩
  · show iprop((lefts false false c ∗ lefts false true c) ∗ lefts true false c ∗ lefts true true c)
      ⊢ iprop(lefts false false c ∗ lefts false true c ∗ lefts true false c ∗ lefts true true c)
    exact Laws.sep_assoc.1
  · show iprop(lefts false false c ∗ lefts false true c ∗ lefts true false c ∗ lefts true true c)
      ⊢ iprop((lefts false false c ∗ lefts false true c) ∗ lefts true false c ∗ lefts true true c)
    exact Laws.sep_assoc.2

theorem done_all (c : Dev nD) : done (F := F) c 40
    ⊢ iprop(closed c ∗ lefts false false c ∗ lefts false true c ∗ lefts true false c ∗ lefts true true c) := by
  unfold done closed doneRes
  rw [Finset.filter_true_of_mem fun l _ => ord_lt l, ← lefts_all]
  rw [← bigSep_sep']
  exact bigSep_mono fun l _ => by
    show iprop(atPos ER (sendCell c l) 1 ∅ 0 ∗ atPos ER (recvCell c l) 1 ∅ 0 ∗ left l c)
      ⊢ iprop((atPos ER (sendCell c l) 1 ∅ 0 ∗ atPos ER (recvCell c l) 1 ∅ 0) ∗ left l c)
    iintro ⟨Ha, Hb, Hl⟩
    isplitr [Hl]
    · isplitl [Ha]; · iexact Ha
      iexact Hb
    iexact Hl

/-! ## Between two steps -/

/-- Before step `t` of the plane reduce, -/
def PlaneAt (c : Dev nD) (t : ℕ) : sProp 𝕄 :=
  iprop(At c (2 * t) ∗ own c xM (X c) ∗ stg X W false false t c ∗ stg X W false true t c)
/-- of the column reduce, -/
def ColAt (c : Dev nD) (t : ℕ) : sProp 𝕄 :=
  iprop(At c (14 + 2 * t) ∗ own c (plane false) (totP X W false c) ∗ own c (plane true) (totP X W true c)
    ∗ stg X W true false t c ∗ stg X W true true t c)
/-- What a gather channel sends next. -/
def held (z b : Bool) (c : Dev nD) : ℕ → sProp 𝕄
  | 0 => own c (gsrc z b) (sentVal X W ⟨true, z, b⟩ 0 c)
  | h + 1 => if hh : h < lenZ z then recvPay X W ⟨⟨true, z, b⟩, ⟨h, hh⟩⟩ c else iprop(emp)
/-- Before step `h` of the column gather, -/
def ColGAt (c : Dev nD) (h : ℕ) : sProp 𝕄 :=
  iprop(At c (20 + 2 * h) ∗ held X W true false c h ∗ held X W true true c h ∗ outAt X W c (20 + 2 * h) ∗ gsrcAt X W false c h ∗ gsrcAt X W true c h)
/-- and of the plane gather. -/
def PlaneGAt (c : Dev nD) (h : ℕ) : sProp 𝕄 :=
  iprop(At c (26 + 2 * h) ∗ held X W false false c h ∗ held X W false true c h ∗ outAt X W c (26 + 2 * h))

theorem held_succ (z b : Bool) (c : Dev nD) (h : Fin (lenZ z)) : held X W z b c (h.val + 1) = recvPay X W ⟨⟨true, z, b⟩, h⟩ c := dif_pos h.isLt
theorem held_send (z b : Bool) (c : Dev nD) : (h : Fin (lenZ z)) → held X W z b c h.val ⊢ sendPay X W ⟨⟨true, z, b⟩, h⟩ c
  | ⟨0, _⟩ => Entails.of_eq rfl
  | ⟨h + 1, hh⟩ => (Entails.of_eq (held_succ X W z b c ⟨h, Nat.lt_of_succ_lt hh⟩)).trans (pass X W c z b h hh)
theorem recv_held (z b : Bool) (c : Dev nD) (h : Fin (lenZ z)) : recvPay X W ⟨⟨true, z, b⟩, h⟩ c ⊢ held X W z b c (h.val + 1) :=
  Entails.of_eq (held_succ X W z b c h).symm
theorem held_recv (z b : Bool) (c : Dev nD) (h : Fin (lenZ z)) : held X W z b c (h.val + 1) ⊢ recvPay X W ⟨⟨true, z, b⟩, h⟩ c :=
  Entails.of_eq (held_succ X W z b c h)

section Rules
variable (K : Dev nD × CI → ℕ) (c : Dev nD)

theorem plane_next {rest : Pr F PUnit} (t : Fin 7) {n : ℕ} (hn : t.val = n) {dA dB : Dev nD} (hA : dA = peer false false c) (hB : dB = peer false true c)
    {w : Bool → FVec F S64x1024 .bf16} (hw : ∀ b, w b = wv W b c) {Φ : PUnit → sProp 𝕄} :
    iprop(ctx X W K ∗ PlaneAt X W c n) ⊢ iprop((PlaneAt X W c (n + 1) -∗ WP c rest Φ) -∗ WP c (planeStep c t dA dB w >>= fun _ => rest) Φ) := by
  subst hn
  unfold PlaneAt
  iintro ⟨#HC, H⟩ Hk
  iapply (wp_seq c)
  iapply (planeStep_op X W K c t hA hB hw (n := 2 * t.val) (by show _ = 0 + 2 * t.val + 0; omega)) $$ [H]
  · isplitr; · iexact HC
    iexact H
  iintro H
  iapply Hk
  iexact H

theorem col_next {rest : Pr F PUnit} (t : Fin 3) {n : ℕ} (hn : t.val = n) {dA dB : Dev nD} (hA : dA = peer true false c) (hB : dB = peer true true c) {Φ : PUnit → sProp 𝕄} :
    iprop(ctx X W K ∗ ColAt X W c n) ⊢ iprop((ColAt X W c (n + 1) -∗ WP c rest Φ) -∗ WP c (colStep c t dA dB >>= fun _ => rest) Φ) := by
  subst hn
  unfold ColAt
  iintro ⟨#HC, H⟩ Hk
  iapply (wp_seq c)
  iapply (colStep_op X W K c t hA hB (n := 14 + 2 * t.val) (by show _ = 14 + 2 * t.val + 0; omega)) $$ [H]
  · isplitr; · iexact HC
    iexact H
  iintro H
  iapply Hk
  iexact H

theorem colGather_at (h : Fin 3) {n : ℕ} (hn : h.val = n) {dA dB : Dev nD} (hA : dA = peer true false c) (hB : dB = peer true true c) {Φ : PUnit → sProp 𝕄} :
    iprop(ctx X W K ∗ ColGAt X W c n) ⊢ iprop((ColGAt X W c (n + 1) -∗ Φ ⟨⟩) -∗ WP c (colGather c h dA dB) Φ) := by
  subst hn
  unfold ColGAt
  iintro ⟨#HC, HA, H0, H1, HR⟩ Hk
  iapply (colGather_op X W K c h hA hB (n := 20 + 2 * h.val) (by show _ = 20 + 2 * h.val + 0; omega)) $$ [HA H0 H1 HR]
  · isplitr; · iexact HC
    isplitl [HA]; · iexact HA
    isplitl [H0]; · iapply (held_send X W true false c h); iexact H0
    isplitl [H1]; · iapply (held_send X W true true c h); iexact H1
    iexact HR
  iintro ⟨HA, H0, H1, HR⟩
  iapply Hk
  isplitl [HA]; · iexact HA
  isplitl [H0]; · iapply (recv_held X W true false c h); iexact H0
  isplitl [H1]; · iapply (recv_held X W true true c h); iexact H1
  iexact HR

theorem planeGather_at (h : Fin 7) {n : ℕ} (hn : h.val = n) {dA dB : Dev nD} (hA : dA = peer false false c) (hB : dB = peer false true c) {Φ : PUnit → sProp 𝕄} :
    iprop(ctx X W K ∗ PlaneGAt X W c n) ⊢ iprop((PlaneGAt X W c (n + 1) -∗ Φ ⟨⟩) -∗ WP c (planeGather c h dA dB) Φ) := by
  subst hn
  unfold PlaneGAt
  iintro ⟨#HC, HA, H0, H1, HR⟩ Hk
  iapply (planeGather_op X W K c h hA hB (n := 26 + 2 * h.val) (by show _ = 26 + 2 * h.val + 0; omega)) $$ [HA H0 H1 HR]
  · isplitr; · iexact HC
    isplitl [HA]; · iexact HA
    isplitl [H0]; · iapply (held_send X W false false c h); iexact H0
    isplitl [H1]; · iapply (held_send X W false true c h); iexact H1
    iexact HR
  iintro ⟨HA, H0, H1, HR⟩
  iapply Hk
  isplitl [HA]; · iexact HA
  isplitl [H0]; · iapply (recv_held X W false false c h); iexact H0
  isplitl [H1]; · iapply (recv_held X W false true c h); iexact H1
  iexact HR

theorem colGather_next {rest : Pr F PUnit} (h : Fin 3) {n : ℕ} (hn : h.val = n) {dA dB : Dev nD} (hA : dA = peer true false c) (hB : dB = peer true true c) {Φ : PUnit → sProp 𝕄} :
    iprop(ctx X W K ∗ ColGAt X W c n) ⊢ iprop((ColGAt X W c (n + 1) -∗ WP c rest Φ) -∗ WP c (colGather c h dA dB >>= fun _ => rest) Φ) := by
  iintro H Hk
  iapply (wp_seq c)
  iapply (colGather_at X W K c h hn hA hB) $$ [H]
  · iexact H
  iintro H
  iapply Hk
  iexact H

theorem planeGather_next {rest : Pr F PUnit} (h : Fin 7) {n : ℕ} (hn : h.val = n) {dA dB : Dev nD} (hA : dA = peer false false c) (hB : dB = peer false true c) {Φ : PUnit → sProp 𝕄} :
    iprop(ctx X W K ∗ PlaneGAt X W c n) ⊢ iprop((PlaneGAt X W c (n + 1) -∗ WP c rest Φ) -∗ WP c (planeGather c h dA dB >>= fun _ => rest) Φ) := by
  iintro H Hk
  iapply (wp_seq c)
  iapply (planeGather_at X W K c h hn hA hB) $$ [H]
  · iexact H
  iintro H
  iapply Hk
  iexact H

theorem device_op {Ψ : Dev nD → sProp 𝕄} : Ψ c ⊢ WP c (Prog.lift .deviceId : Pr F (Dev nD)) Ψ := by
  show Ψ c ⊢ wp frame (wpE (defs₀ (F := F)) 𝒱₀ (c : Thread nD τ) none) Set.univ (.op .deviceId .ret) Ψ
  rw [wp_deviceId, wp_ret]
  iintro H
  imodintro
  iexact H

end Rules

end Cert.KernelIdeal.Ring

end
-- ==== Proof.Ghost.lean ====
/-
# The ghost state at the launch

Each device's cells start at round 0, and their duty tokens are dealt to the devices that pay them: a barrier's
four tokens to the four neighbours, a receive cell's token to the device that transfers into it. What the
devices together owe a cell is the credit its owner starts with.

-/
module

public import proofs.«01_k».proof.Proof.Stages

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

/-! ## Cells and tokens -/

theorem kcell_inj : Function.Injective (kcell : Dev nD × CI → GSem nD τ sig) := by
  rintro ⟨c, i⟩ ⟨c', i'⟩ h
  have h1 : c = c' := congrArg (fun g : GSem nD τ sig => g.1.1) h
  exact Prod.ext h1 (csem_inj (congrArg Prod.snd h))

theorem kcell_eq {c d : Dev nD} {i j : CI} : Iff (kcell (c, i) = kcell (d, j)) (c = d ∧ i = j) :=
  ⟨fun h => ⟨congrArg Prod.fst (kcell_inj h), congrArg Prod.snd (kcell_inj h)⟩, fun ⟨h, h'⟩ => by rw [h, h']⟩

def allCells : Finset (GSem nD τ sig) := Finset.univ.map ⟨kcell, kcell_inj⟩

/-- A device's duty tokens: its barrier's, one per neighbour, and one per transfer cell. -/
abbrev TI : Type := Du ⊕ (Bool × Lk)
def tokOf : Dev nD × TI → GSem nD τ sig × ℕ × Du
  | (c, .inl d) => (barCell c, 0, d)
  | (c, .inr j) => (kcell (c, some j), 0, d₀)

theorem tokOf_inj : Function.Injective tokOf := by
  rintro ⟨c, d | j⟩ ⟨c', d' | j'⟩ h
  · have h1 := kcell_eq.mp (congrArg Prod.fst h)
    have h2 : d = d' := congrArg (fun x : GSem nD τ sig × ℕ × Du => x.2.2) h
    rw [h1.1, h2]
  · exact absurd (kcell_eq.mp (congrArg Prod.fst h)).2 (by simp)
  · exact absurd (kcell_eq.mp (congrArg Prod.fst h)).2 (by simp)
  · have h1 := kcell_eq.mp (congrArg Prod.fst h)
    rw [h1.1, Option.some.inj h1.2]

def allToks : Finset (GSem nD τ sig × ℕ × Du) := Finset.univ.map ⟨tokOf, tokOf_inj⟩

def toks (c : Dev nD) : sProp 𝕄 :=
  iprop((bigSep Finset.univ fun d : Du => dutyTok ER (barCell c) 0 d) ∗ bigSep Finset.univ fun j : Bool × Lk => dutyTok ER (kcell (c, some j)) 0 d₀)

/-- What the launch deals to device `c`. -/
def G (c : Dev nD) : sProp 𝕄 :=
  iprop((bigSep Finset.univ fun i : CI => roundState ER (sched X W) (kcell (c, i)) 0)
    ∗ ((bigSep Finset.univ fun i : CI => atPos ER (kcell (c, i)) 0 ∅ 0) ∗ bigSep Finset.univ fun i : CI => reached ER (kcell (c, i)) 0) ∗ toks c)

theorem fund : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro H
  imod (Rounds.fund ER (sched X W) allCells allToks) $$ H with ⟨Hs, Hr, Ha, Ht⟩
  imodintro
  ihave Hs' := (Entails.of_eq (hX fun g => roundState ER (sched X W) g 0)) $$ Hs
  ihave Ha' := (Entails.of_eq (hX fun g => atPos ER g 0 ∅ 0)) $$ Ha
  ihave Hr' := (Entails.of_eq (hX fun g => reached ER g 0)) $$ Hr
  ihave Ht' := (Entails.of_eq hT) $$ Ht
  unfold G; simp only [bigSep_sep']
  isplitl [Hs']; · iexact Hs'
  isplitl [Ha' Hr']
  · isplitl [Ha'] <;> iassumption
  iexact Ht'

/-! ## Semaphores -/

/-- A product over a device's cells: the barrier's factor, the send cells', the receive cells'. -/
theorem ci_sep (Φ : CI → sProp 𝕄) : bigSep Finset.univ Φ = iprop(Φ none ∗ (bigSep Finset.univ fun j : Bool × Lk => Φ (some j))) := by
  have h : (bigSep Finset.univ fun u : PUnit.{1} => Φ ((Equiv.optionEquivSumPUnit.{0} (Bool × Lk)).symm (.inr u))) = Φ none := by
    rw [show (Finset.univ : Finset PUnit.{1}) = {⟨⟩} from rfl, bigSep_singleton]; rfl
  rw [bigSep_univ_equiv (Equiv.optionEquivSumPUnit.{0} (Bool × Lk)).symm Φ, bigSep_univ_sum, h]
  refine BI.equiv_iff.mp ⟨?_, ?_⟩
  · show iprop((bigSep Finset.univ fun j : Bool × Lk => Φ (some j)) ∗ Φ none) ⊢ iprop(Φ none ∗ (bigSep Finset.univ fun j : Bool × Lk => Φ (some j)))
    iintro ⟨H1, H2⟩; isplitl [H2] <;> iassumption
  · show iprop(Φ none ∗ (bigSep Finset.univ fun j : Bool × Lk => Φ (some j))) ⊢ iprop((bigSep Finset.univ fun j : Bool × Lk => Φ (some j)) ∗ Φ none)
    iintro ⟨H1, H2⟩; isplitl [H2] <;> iassumption
theorem xfer_sep (Φ : Bool × Lk → sProp 𝕄) : bigSep Finset.univ Φ
    = iprop((bigSep Finset.univ fun l : Lk => Φ (false, l)) ∗ bigSep Finset.univ fun l : Lk => Φ (true, l)) := by
  rw [bigSep_univ_prod, bool_sep]

/-- The kernel's own semaphores. -/
abbrev osem (j : Bool × Lk) : SemLoc sig := csem (some j)

theorem ownSems0_eq (c : Dev nD) : (Pipeline.ownSems0 (Ix := Unit) (Name := ℕ) (U := UU) (Lvl := ℕ) (Val := Elt F) (τ := τ) osem c : sProp 𝕄)
    = bigSep Finset.univ fun j : Bool × Lk => semVal (kcell (c, some j)) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) : iprop(unscopedSems0 c ∗ Pipeline.ownSems0 (Ix := Unit) (Name := ℕ) (U := UU) (Lvl := ℕ) (Val := Elt F) (τ := τ) osem c)
    = (bigSep Finset.univ fun i : CI => semVal (kcell (c, i)) 0 : sProp 𝕄) := by
  rw [ci_sep, ownSems0_eq, unscopedSems0_eq]

/-- A device's invariants are allocated. -/
theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun i : CI => iprop(∃ κ : ℕ, cellInv ER (sched X W) κ (kcell (c, i))))
          ∗ ((bigSep Finset.univ fun i : CI => atPos ER (kcell (c, i)) 0 ∅ 0) ∗ bigSep Finset.univ fun i : CI => reached ER (kcell (c, i)) 0) ∗ toks c) := by
  have hA : iprop((bigSep Finset.univ fun i : CI => semVal (kcell (c, i)) 0) ∗ bigSep Finset.univ fun i : CI => roundState ER (sched X W) (kcell (c, i)) 0)
      ⊢ (|={Set.univ}=> bigSep Finset.univ fun i : CI => iprop(∃ κ : ℕ, cellInv ER (sched X W) κ (kcell (c, i))) : sProp 𝕄) := by
    rw [← bigSep_sep']
    exact (bigSep_mono fun i _ => (Rounds.body_intro ER (sched X W) (kcell (c, i))).trans inv_alloc).trans (bigSep_fupd _ _)
  unfold G
  iintro ⟨Ho, Hu, Hs, Ha, Ht⟩
  ihave Hv := (Entails.of_eq (sems0_eq (F := F) c)) $$ [Ho Hu]
  · isplitl [Hu] <;> iassumption
  imod hA $$ [Hv Hs] with Hi
  · isplitl [Hv] <;> iassumption
  imodintro
  isplitl [Hi]; · iexact Hi
  isplitl [Ha]; · iexact Ha
  iexact Ht

/-! ## The tokens dealt -/

/-- What device `c` pays with. -/
def payToks (c : Dev nD) : sProp 𝕄 :=
  iprop((bigSep Finset.univ fun d : Du => dutyTok ER (barCell (peer d.1 (!d.2) c)) 0 d)
    ∗ (bigSep Finset.univ fun l : Lk => dutyTok ER (sendCell c l) 0 d₀) ∗ bigSep Finset.univ fun l : Lk => dutyTok ER (recvCell (dst l c) l) 0 d₀)

theorem toks_dealt : (bigSep Finset.univ fun c : Dev nD => (toks c : sProp 𝕄)) = bigSep Finset.univ fun c : Dev nD => payToks c := by
  have hb : (bigSep Finset.univ fun c : Dev nD => bigSep Finset.univ fun d : Du => (dutyTok ER (barCell c) 0 d : sProp 𝕄))
      = bigSep Finset.univ fun c : Dev nD => bigSep Finset.univ fun d : Du => dutyTok ER (barCell (peer d.1 (!d.2) c)) 0 d := by
    rw [Pipeline.bigSep_univ_comm, Pipeline.bigSep_univ_comm (α := Dev nD)]
    exact bigSep_congr fun d _ => bigSep_univ_equiv (turn d.1 (!d.2)) fun c : Dev nD => (dutyTok ER (barCell c) 0 d : sProp 𝕄)
  have hr : (bigSep Finset.univ fun c : Dev nD => bigSep Finset.univ fun l : Lk => (dutyTok ER (recvCell c l) 0 d₀ : sProp 𝕄))
      = bigSep Finset.univ fun c : Dev nD => bigSep Finset.univ fun l : Lk => dutyTok ER (recvCell (dst l c) l) 0 d₀ := by
    rw [Pipeline.bigSep_univ_comm, Pipeline.bigSep_univ_comm (α := Dev nD)]
    exact bigSep_congr fun l _ => bigSep_univ_equiv (turn l.1.z l.1.b) fun c : Dev nD => (dutyTok ER (recvCell c l) 0 d₀ : sProp 𝕄)
  unfold toks payToks
  simp only [xfer_sep, bigSep_sep']
  rw [hb, hr]

/-- Everything but the invariants that device `c` starts with. -/
def linear (c : Dev nD) : sProp 𝕄 := iprop((bigSep Finset.univ fun i : CI => atPos ER (kcell (c, i)) 0 ∅ 0) ∗ payToks c)
/-- The invariants and the rounds' beginnings. -/
def records (K : Dev nD × CI → ℕ) : sProp 𝕄 :=
  iprop((bigSep Finset.univ fun ci : Dev nD × CI => cellInv ER (sched X W) (K ci) (kcell ci)) ∗ bigSep Finset.univ fun ci : Dev nD × CI => reached ER (kcell ci) 0)

instance records_persistent (K : Dev nD × CI → ℕ) : BI.Persistent (records X W K) := by unfold records; infer_instance

def G' (c : Dev nD) : sProp 𝕄 := iprop(∃ K, records X W K ∗ linear c)

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun i : CI => iprop(∃ κ : ℕ, cellInv ER (sched X W) κ (kcell (c, i))))
          ∗ ((bigSep Finset.univ fun i : CI => atPos ER (kcell (c, i)) 0 ∅ 0) ∗ bigSep Finset.univ fun i : CI => reached ER (kcell (c, i)) 0) ∗ toks c) : sProp 𝕄)
      ⊢ bigSep Finset.univ (G' X W) := by
  have hl : (bigSep Finset.univ fun c : Dev nD => (linear c : sProp 𝕄))
      = iprop((bigSep Finset.univ fun c : Dev nD => bigSep Finset.univ fun i : CI => atPos ER (kcell (c, i)) 0 ∅ 0) ∗ bigSep Finset.univ fun c : Dev nD => payToks c) := by
    unfold linear; rw [bigSep_sep']
  rw [bigSep_sep', bigSep_sep', bigSep_sep', ← bigSep_univ_prod (fun ci : Dev nD × CI => iprop(∃ κ : ℕ, cellInv ER (sched X W) κ (kcell ci))),
    ← bigSep_univ_prod (fun ci : Dev nD × CI => (reached ER (kcell ci) 0 : sProp 𝕄)), toks_dealt]
  iintro ⟨HI, ⟨Ha, #HR⟩, Ht⟩
  ihave HK := (BI.bigSep_exists_pi Finset.univ (fun (ci : Dev nD × CI) (κ : ℕ) => (cellInv ER (sched X W) κ (kcell ci) : sProp 𝕄))) $$ HI
  icases HK with ⟨%K, #HI⟩
  have hw : iprop(records X W K ∗ bigSep Finset.univ fun c : Dev nD => (linear c : sProp 𝕄)) ⊢ bigSep Finset.univ (G' X W) :=
    with_records fun c => by unfold G'; iintro H; iexists K; iexact H
  iapply hw
  isplitr
  · unfold records; isplitl; · iexact HI
    iexact HR
  · rw [hl]; isplitl [Ha]; · iexact Ha
    iexact Ht

/-- All devices' invariants at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credit -/

theorem barTo_bar (z b : Bool) (d c : Dev nD) : barTo z b d (barCell c) () = if d = prev z b c then 1 else 0 := by
  unfold barTo
  rw [tallyAt_apply]
  refine if_congr ?_ rfl rfl
  constructor
  · rintro ⟨h, -⟩; rw [(kcell_eq.mp h).1, prev_peer]
  · rintro rfl; exact ⟨by rw [peer_prev], rfl⟩
theorem barTo_recv (z b : Bool) (d c : Dev nD) (l : Lk) : barTo z b d (recvCell c l) () = 0 := by
  unfold barTo
  rw [tallyAt_apply, if_neg]
  rintro ⟨h, -⟩
  exact absurd (kcell_eq.mp h).2 (by simp)
theorem owed_bar (d c : Dev nD) : owedFrom d 0 (barCell c) () = 0 := by
  by_contra h
  obtain ⟨l, -, hl⟩ := owedFrom_pos (Nat.pos_of_ne_zero h)
  exact absurd (kcell_eq.mp hl).2 (by simp)
theorem owed_recv (d c : Dev nD) (l : Lk) : owedFrom d 0 (recvCell c l) () = if d = org l c then Nl l else 0 := by
  unfold owedFrom
  rw [Finset.filter_true_of_mem fun l _ => Nat.zero_le _, Finset.sum_apply, Finsupp.finset_sum_apply, Finset.sum_eq_single l]
  · rw [tallyAt_apply]
    refine if_congr ?_ rfl rfl
    constructor
    · rintro ⟨h, -⟩; rw [(kcell_eq.mp h).1]; exact (prev_peer _ _ _).symm
    · rintro rfl; exact ⟨by rw [show dst l (org l c) = c from peer_prev _ _ _], rfl⟩
  · intro l' _ hne
    rw [tallyAt_apply, if_neg]
    rintro ⟨h, -⟩
    have h2 := Option.some.inj (kcell_eq.mp h).2
    exact hne (congrArg Prod.snd h2).symm
  · exact fun h => absurd (Finset.mem_univ l) h

theorem O₀_at (d : Dev nD) (g : GSem nD τ sig) : O₀ d g () = owedFrom d 0 g () + barTo true true d g () + barTo true false d g ()
    + barTo false true d g () + barTo false false d g () := by
  unfold O₀ O₁ O₂ O₃
  simp only [Pi.add_apply, Finsupp.add_apply]

theorem launch_bar (c : Dev nD) :
    tallyOn (barCell c) (launchCredit (Pipeline.owing O₀) 0 (barCell c)) = (tallyAt (barCell c) () 4 : CellTallies nD τ sig Unit) := by
  have one (p : Dev nD) : (∑ d : Dev nD, if d = p then 1 else 0) = 1 := by
    rw [Finset.sum_ite_eq' Finset.univ p fun _ => 1, if_pos (Finset.mem_univ _)]
  unfold tallyAt; refine congrArg _ (Finsupp.ext fun u => ?_); cases u
  rw [Pipeline.launchCredit_owing, Finsupp.single_eq_same, Finset.sum_congr rfl fun d _ => O₀_at d (barCell c)]
  simp only [barTo_bar, owed_bar, Finset.sum_add_distrib, one, Finset.sum_const_zero]

theorem launch_recv (c : Dev nD) (l : Lk) :
    tallyOn (recvCell c l) (launchCredit (Pipeline.owing O₀) 0 (recvCell c l)) = (tallyAt (recvCell c l) () (Nl l) : CellTallies nD τ sig Unit) := by
  unfold tallyAt; refine congrArg _ (Finsupp.ext fun u => ?_); cases u
  rw [Pipeline.launchCredit_owing, Finsupp.single_eq_same, Finset.sum_congr rfl fun d _ => O₀_at d (recvCell c l)]
  simp only [barTo_recv, owed_recv, Nat.add_zero]
  rw [Finset.sum_ite_eq' Finset.univ (org l c) fun _ => Nl l, if_pos (Finset.mem_univ _)]

theorem creds (c : Dev nD) : (Pipeline.launchCred O₀ c : sProp 𝕄)
    ⊢ iprop(cred (tallyAt (barCell c) () 4) ∗ bigSep Finset.univ fun l : Lk => cred (tallyAt (recvCell c l) () (Nl l))) := by
  have h1 : (Pipeline.launchCred O₀ c : sProp 𝕄) ⊢ bigSep (Finset.univ.map ⟨csem, csem_inj⟩) fun sm : SemLoc sig =>
      cred (tallyOn ((c.tc : Thread nD τ), sm) (launchCredit (Pipeline.owing O₀) 0 ((c.tc : Thread nD τ), sm))) :=
    bigSep_subset (Finset.subset_univ _)
  have h2 (i : CI) (x : ℕ) (h : tallyOn (kcell (c, i)) (launchCredit (Pipeline.owing O₀) 0 (kcell (c, i))) = (tallyAt (kcell (c, i)) () x : CellTallies nD τ sig Unit)) :
      (cred (tallyOn (kcell (c, i)) (launchCredit (Pipeline.owing O₀) 0 (kcell (c, i)))) : sProp 𝕄) ⊢ cred (tallyAt (kcell (c, i)) () x) := by rw [h]
  refine h1.trans ?_
  rw [bigSep_map, ci_sep, xfer_sep]
  iintro ⟨Hb, -, Hr⟩
  isplitl [Hb]
  · iapply (h2 none 4 (launch_bar c)); iexact Hb
  · have h3 : (bigSep Finset.univ fun l : Lk => (cred (tallyOn (recvCell c l) (launchCredit (Pipeline.owing O₀) 0 (recvCell c l))) : sProp 𝕄))
        ⊢ bigSep Finset.univ fun l : Lk => cred (tallyAt (recvCell c l) () (Nl l)) := bigSep_mono fun l _ => h2 (some (true, l)) (Nl l) (launch_recv c l)
    iapply h3; iexact Hr

/-- What a device holds at the launch for its transfers and the handshake, put together. -/
theorem start_of (c : Dev nD) : iprop(linear c ∗ Pipeline.launchCred O₀ c) ⊢ (start₀ c : sProp 𝕄) := by
  have hb : (bigSep Finset.univ fun d : Du => (dutyTok ER (barCell (peer d.1 (!d.2) c)) 0 d : sProp 𝕄))
      = iprop((dutyTok ER (barCell (peer false true c)) 0 (false, false) ∗ dutyTok ER (barCell (peer false false c)) 0 (false, true))
        ∗ (dutyTok ER (barCell (peer true true c)) 0 (true, false) ∗ dutyTok ER (barCell (peer true false c)) 0 (true, true))) := by
    rw [bigSep_univ_prod, bool_sep, bool_sep, bool_sep]; rfl
  unfold linear payToks
  rw [ci_sep, xfer_sep, hb]
  iintro ⟨⟨⟨Hab, Has, Har⟩, ⟨⟨H1, H2⟩, H3, H4⟩, Hts, Htr⟩, Hc⟩
  ihave Hc' := (creds (F := F) c) $$ Hc
  icases Hc' with ⟨Hcb, Hcr⟩
  unfold start₀ linkRes₀ recvWait
  simp only [bigSep_sep']
  isplitl [Has Har Hts Htr Hcr]
  · isplitl [Hts]; · iexact Hts
    isplitl [Htr]; · iexact Htr
    isplitl [Has]; · iexact Has
    isplitl [Har]; · iexact Har
    iexact Hcr
  isplitl [H1 H2 H3 H4]
  · isplitl [H2]; · iexact H2
    isplitl [H1]; · iexact H1
    isplitl [H4]; · iexact H4
    iexact H3
  isplitl [Hab]; · iexact Hab
  iexact Hcb

end Cert.KernelIdeal.Ring

end
-- ==== Proof.Run.lean ====
/-
# The kernel's run on one device, whole

From the launch's resources, the blocks of the operands and the buffers, the kernel runs to its end: the result
is written, every transfer is closed, nothing is owed and the buffers are whole.
-/
module

public import proofs.«01_k».proof.Proof.Stages

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x64 .bf16) (W : Dev nD → Vec F S64x2048 .bf16)

theorem dev_eq {a : ℕ} {d : Dev nD} (h : a < nD) (e : a = d.val) : (⟨a, h⟩ : Dev nD) = d := Fin.ext e

/-- The two reduces, -/
def reduces (c : Dev nD) (w : Bool → FVec F S64x1024 .bf16) : Pr F PUnit := do
  seedX false (w false) (k0_off1 c) (k0_off1_inb c)
  seedX true (w true) (k0_off2 c) (k0_off2_inb c)
  planeStep c 0 ⟨k0_dev5 c, k0_dev5_lt c⟩ ⟨k0_dev6 c, k0_dev6_lt c⟩ w
  planeStep c 1 ⟨k0_dev7 c, k0_dev7_lt c⟩ ⟨k0_dev8 c, k0_dev8_lt c⟩ w
  planeStep c 2 ⟨k0_dev9 c, k0_dev9_lt c⟩ ⟨k0_dev10 c, k0_dev10_lt c⟩ w
  planeStep c 3 ⟨k0_dev11 c, k0_dev11_lt c⟩ ⟨k0_dev12 c, k0_dev12_lt c⟩ w
  planeStep c 4 ⟨k0_dev13 c, k0_dev13_lt c⟩ ⟨k0_dev14 c, k0_dev14_lt c⟩ w
  planeStep c 5 ⟨k0_dev15 c, k0_dev15_lt c⟩ ⟨k0_dev16 c, k0_dev16_lt c⟩ w
  planeLast c ⟨k0_dev17 c, k0_dev17_lt c⟩ ⟨k0_dev18 c, k0_dev18_lt c⟩ w
  seedZ false (k0_off5 c) (k0_off5_inb c)
  seedZ true (k0_off6 c) (k0_off6_inb c)
  colStep c 0 ⟨k0_dev19 c, k0_dev19_lt c⟩ ⟨k0_dev20 c, k0_dev20_lt c⟩
  colStep c 1 ⟨k0_dev21 c, k0_dev21_lt c⟩ ⟨k0_dev22 c, k0_dev22_lt c⟩
  colLast c ⟨k0_dev23 c, k0_dev23_lt c⟩ ⟨k0_dev24 c, k0_dev24_lt c⟩
/-- and the two gathers. -/
def gathers (c : Dev nD) : Pr F PUnit := do
  colGather c 0 ⟨k0_dev25 c, k0_dev25_lt c⟩ ⟨k0_dev26 c, k0_dev26_lt c⟩
  colGather c 1 ⟨k0_dev27 c, k0_dev27_lt c⟩ ⟨k0_dev28 c, k0_dev28_lt c⟩
  colGather c 2 ⟨k0_dev29 c, k0_dev29_lt c⟩ ⟨k0_dev30 c, k0_dev30_lt c⟩
  planeGather c 0 ⟨k0_dev31 c, k0_dev31_lt c⟩ ⟨k0_dev32 c, k0_dev32_lt c⟩
  planeGather c 1 ⟨k0_dev33 c, k0_dev33_lt c⟩ ⟨k0_dev34 c, k0_dev34_lt c⟩
  planeGather c 2 ⟨k0_dev35 c, k0_dev35_lt c⟩ ⟨k0_dev36 c, k0_dev36_lt c⟩
  planeGather c 3 ⟨k0_dev37 c, k0_dev37_lt c⟩ ⟨k0_dev38 c, k0_dev38_lt c⟩
  planeGather c 4 ⟨k0_dev39 c, k0_dev39_lt c⟩ ⟨k0_dev40 c, k0_dev40_lt c⟩
  planeGather c 5 ⟨k0_dev41 c, k0_dev41_lt c⟩ ⟨k0_dev42 c, k0_dev42_lt c⟩
  planeGather c 6 ⟨k0_dev43 c, k0_dev43_lt c⟩ ⟨k0_dev44 c, k0_dev44_lt c⟩

/-- The kernel by its parts. -/
theorem spine_eq : spine (F := F) = (do
    let c : Dev nD ← Prog.lift .deviceId
    handshake c
    let wa ← loadW ![0, 0] inb_S64x2048_S64x1024_0_0
    let wb ← loadW ![0, 1024] inb_S64x2048_S64x1024_0_1024
    reduces c (fun b => bif b then wb else wa)
    ownHalf false ![0, 0] inb_S64x2048_S64x1024_0_0
    ownHalf true ![0, 1024] inb_S64x2048_S64x1024_0_1024
    ownPlane c false
    ownPlane c true
    gathers c) := by
  unfold spine reduces gathers
  simp only [bind_assoc, cond_true, cond_false]

/-- What a device begins with, -/
def before (c : Dev nD) : sProp 𝕄 :=
  iprop(owing c (O₀ c) ∗ start₀ c ∗ own c xM (X c) ∗ own c wM (W c) ∗ some' c oM ∗ scratch c)
/-- and what it ends with. -/
def after (c : Dev nD) : sProp 𝕄 :=
  iprop(owing c 0 ∗ (atPos ER (barCell c) 1 ∅ 0 ∗ closed c) ∗ own c xM (X c) ∗ own c wM (W c) ∗ own c oM (target X W c) ∗ scratch c)

theorem ring_open (z b : Bool) (c : Dev nD) : ringBufs (F := F) z b c
    ⊢ iprop(some' c (sbuf z b) ∗ some' c (rbuf ⟨false, z, b⟩) ∗ some' c (rbuf ⟨true, z, b⟩) ∗ some' c (gsrc z b)) := Entails.of_eq rfl
theorem free_slots (z b : Bool) (c : Dev nD) : stgFree (F := F) z b c
    ⊢ iprop(some' c (slotOf (sbuf z b) 0) ∗ some' c (slotOf (sbuf z b) 1)) := Entails.of_eq rfl
theorem half_held (b : Bool) (c : Dev nD) : own c (gsrc true b) (half X W b c) ⊢ held X W true b c 0 := Entails.of_eq rfl
theorem column_held (b : Bool) (c : Dev nD) : own c (pS b) (column X W b c) ⊢ held X W false b c 0 := by
  cases b <;> exact Entails.of_eq rfl
theorem gsrc_pS (b : Bool) (c : Dev nD) : some' c (gsrc false b) ⊢ some' (F := F) c (pS b) := Entails.of_eq rfl

section
variable (K : Dev nD × CI → ℕ) (c : Dev nD)

/-- The two gathers, to the end. -/
theorem gathers_op {Φ : PUnit → sProp 𝕄} :
    iprop(ctx X W K ∗ At c 20 ∗ own c (gsrc true false) (half X W false c) ∗ own c (gsrc true true) (half X W true c)
        ∗ outAt X W c 20 ∗ gsrcAt X W false c 0 ∗ gsrcAt X W true c 0)
      ⊢ iprop((At c 40 ∗ recvPay X W ⟨zG false, lastT true⟩ c ∗ recvPay X W ⟨zG true, lastT true⟩ c
          ∗ recvPay X W ⟨pG false, lastT false⟩ c ∗ recvPay X W ⟨pG true, lastT false⟩ c ∗ own c oM (target X W c) -∗ Φ ⟨⟩)
        -∗ WP c (gathers c) Φ) := by
  iintro ⟨#HC, HA, H0, H1, HR⟩ Hk
  unfold gathers
  ihave HP := (show iprop(At c 20 ∗ held X W true false c 0 ∗ held X W true true c 0 ∗ outAt X W c 20 ∗ gsrcAt X W false c 0 ∗ gsrcAt X W true c 0)
    ⊢ ColGAt X W c 0 from Entails.of_eq rfl) $$ [HA H0 H1 HR]
  · isplitl [HA]; · iexact HA
    isplitl [H0]; · iapply (half_held X W false c); iexact H0
    isplitl [H1]; · iapply (half_held X W true c); iexact H1
    iexact HR
  iapply (colGather_next X W K c (0 : Fin 3) (n := 0) rfl (dev_eq (k0_dev25_lt c) (devZ_false c _ (by simp))) (dev_eq (k0_dev26_lt c) (devZ_true c _ (by simp)))) $$ [HP]
  · isplitr; · iexact HC
    iexact HP
  iintro HP
  iapply (colGather_next X W K c (1 : Fin 3) (n := 1) rfl (dev_eq (k0_dev27_lt c) (devZ_false c _ (by simp))) (dev_eq (k0_dev28_lt c) (devZ_true c _ (by simp)))) $$ [HP]
  · isplitr; · iexact HC
    iexact HP
  iintro HP
  iapply (colGather_next X W K c (2 : Fin 3) (n := 2) rfl (dev_eq (k0_dev29_lt c) (devZ_false c _ (by simp))) (dev_eq (k0_dev30_lt c) (devZ_true c _ (by simp)))) $$ [HP]
  · isplitr; · iexact HC
    iexact HP
  iintro HP
  ihave HP := (show ColGAt X W c (2 + 1) ⊢ iprop(At c 26 ∗ held X W true false c (2 + 1) ∗ held X W true true c (2 + 1) ∗ outAt X W c 26
    ∗ gsrcAt X W false c 3 ∗ gsrcAt X W true c 3) from Entails.of_eq rfl) $$ HP
  icases HP with ⟨HA, Hz0, Hz1, HR, HG0, HG1⟩
  ihave HP := (show iprop(At c 26 ∗ held X W false false c 0 ∗ held X W false true c 0 ∗ outAt X W c 26)
    ⊢ PlaneGAt X W c 0 from Entails.of_eq rfl) $$ [HA HG0 HG1 HR]
  · isplitl [HA]; · iexact HA
    isplitl [HG0]
    · iapply (column_held X W false c)
      iapply (filled_done c (m := pS false) (column X W false c) (Rows false c 3) (rows_all false c))
      iapply (show gsrcAt X W false c 3 ⊢ filled c (pS false) (column X W false c) (Rows false c 3) from Entails.of_eq rfl)
      iexact HG0
    isplitl [HG1]
    · iapply (column_held X W true c)
      iapply (filled_done c (m := pS true) (column X W true c) (Rows true c 3) (rows_all true c))
      iapply (show gsrcAt X W true c 3 ⊢ filled c (pS true) (column X W true c) (Rows true c 3) from Entails.of_eq rfl)
      iexact HG1
    iexact HR
  iapply (planeGather_next X W K c (0 : Fin 7) (n := 0) rfl (dev_eq (k0_dev31_lt c) (devP_false c _ (by simp))) (dev_eq (k0_dev32_lt c) (devP_true c _ (by simp)))) $$ [HP]
  · isplitr; · iexact HC
    iexact HP
  iintro HP
  iapply (planeGather_next X W K c (1 : Fin 7) (n := 1) rfl (dev_eq (k0_dev33_lt c) (devP_false c _ (by simp))) (dev_eq (k0_dev34_lt c) (devP_true c _ (by simp)))) $$ [HP]
  · isplitr; · iexact HC
    iexact HP
  iintro HP
  iapply (planeGather_next X W K c (2 : Fin 7) (n := 2) rfl (dev_eq (k0_dev35_lt c) (devP_false c _ (by simp))) (dev_eq (k0_dev36_lt c) (devP_true c _ (by simp)))) $$ [HP]
  · isplitr; · iexact HC
    iexact HP
  iintro HP
  iapply (planeGather_next X W K c (3 : Fin 7) (n := 3) rfl (dev_eq (k0_dev37_lt c) (devP_false c _ (by simp))) (dev_eq (k0_dev38_lt c) (devP_true c _ (by simp)))) $$ [HP]
  · isplitr; · iexact HC
    iexact HP
  iintro HP
  iapply (planeGather_next X W K c (4 : Fin 7) (n := 4) rfl (dev_eq (k0_dev39_lt c) (devP_false c _ (by simp))) (dev_eq (k0_dev40_lt c) (devP_true c _ (by simp)))) $$ [HP]
  · isplitr; · iexact HC
    iexact HP
  iintro HP
  iapply (planeGather_next X W K c (5 : Fin 7) (n := 5) rfl (dev_eq (k0_dev41_lt c) (devP_false c _ (by simp))) (dev_eq (k0_dev42_lt c) (devP_true c _ (by simp)))) $$ [HP]
  · isplitr; · iexact HC
    iexact HP
  iintro HP
  iapply (planeGather_at X W K c (6 : Fin 7) (n := 6) rfl (dev_eq (k0_dev43_lt c) (devP_false c _ (by simp))) (dev_eq (k0_dev44_lt c) (devP_true c _ (by simp)))) $$ [HP]
  · isplitr; · iexact HC
    iexact HP
  iintro HP
  ihave HP := (show PlaneGAt X W c (6 + 1) ⊢ iprop(At c 40 ∗ held X W false false c (6 + 1) ∗ held X W false true c (6 + 1) ∗ outAt X W c 40)
    from Entails.of_eq rfl) $$ HP
  icases HP with ⟨HA, Hp0, Hp1, HR⟩
  iapply Hk
  isplitl [HA]; · iexact HA
  isplitl [Hz0]; · iapply (held_recv X W true false c (2 : Fin 3)); iexact Hz0
  isplitl [Hz1]; · iapply (held_recv X W true true c (2 : Fin 3)); iexact Hz1
  isplitl [Hp0]; · iapply (held_recv X W false false c (6 : Fin 7)); iexact Hp0
  isplitl [Hp1]; · iapply (held_recv X W false true c (6 : Fin 7)); iexact Hp1
  iapply (filled_done c (m := oM) (target X W c) (Has c 40) (has_all c))
  iapply (show outAt X W c 40 ⊢ filled c oM (target X W c) (Has c 40) from Entails.of_eq rfl)
  iexact HR

/-- The two reduces. -/
theorem reduces_op {w : Bool → FVec F S64x1024 .bf16} (hw : ∀ b, w b = wv W b c) {Φ : PUnit → sProp 𝕄} :
    iprop(ctx X W K ∗ At c 0 ∗ own c xM (X c) ∗ stgFree false false c ∗ stgFree false true c ∗ stgFree true false c ∗ stgFree true true c
        ∗ some' c (plane false) ∗ some' c (plane true) ∗ some' c oM ∗ some' c ownM)
      ⊢ iprop((At c 20 ∗ own c xM (X c) ∗ stgFree false false c ∗ stgFree false true c ∗ stgFree true false c ∗ stgFree true true c
          ∗ some' c (plane false) ∗ some' c (plane true) ∗ outAt X W c 20 ∗ own c ownM (blkd X W c) -∗ Φ ⟨⟩)
        -∗ WP c (reduces c w) Φ) := by
  iintro ⟨#HC, HA, HX, HS0, HS1, HZ0, HZ1, HP0, HP1, HO, HW⟩ Hk
  unfold reduces
  rw [hw false, hw true]
  iapply (wp_seq c)
  iapply (seedX_op X W c false (k0_off1_inb c) (off1_eq c)) $$ [HX HS0]
  · isplitl [HX]; · iexact HX
    iapply (free_slots false false c); iexact HS0
  iintro ⟨HX, HS0⟩
  iapply (wp_seq c)
  iapply (seedX_op X W c true (k0_off2_inb c) (off2_eq c)) $$ [HX HS1]
  · isplitl [HX]; · iexact HX
    iapply (free_slots false true c); iexact HS1
  iintro ⟨HX, HS1⟩
  ihave HP := (show iprop(At c 0 ∗ own c xM (X c) ∗ stg X W false false 0 c ∗ stg X W false true 0 c) ⊢ PlaneAt X W c 0 from Entails.of_eq rfl) $$ [HA HX HS0 HS1]
  · isplitl [HA]; · iexact HA
    isplitl [HX]; · iexact HX
    isplitl [HS0]; · iexact HS0
    iexact HS1
  iapply (plane_next X W K c (0 : Fin 7) (n := 0) rfl (dev_eq (k0_dev5_lt c) (devP_false c _ (by simp))) (dev_eq (k0_dev6_lt c) (devP_true c _ (by simp))) hw) $$ [HP]
  · isplitr; · iexact HC
    iexact HP
  iintro HP
  iapply (plane_next X W K c (1 : Fin 7) (n := 1) rfl (dev_eq (k0_dev7_lt c) (devP_false c _ (by simp))) (dev_eq (k0_dev8_lt c) (devP_true c _ (by simp))) hw) $$ [HP]
  · isplitr; · iexact HC
    iexact HP
  iintro HP
  iapply (plane_next X W K c (2 : Fin 7) (n := 2) rfl (dev_eq (k0_dev9_lt c) (devP_false c _ (by simp))) (dev_eq (k0_dev10_lt c) (devP_true c _ (by simp))) hw) $$ [HP]
  · isplitr; · iexact HC
    iexact HP
  iintro HP
  iapply (plane_next X W K c (3 : Fin 7) (n := 3) rfl (dev_eq (k0_dev11_lt c) (devP_false c _ (by simp))) (dev_eq (k0_dev12_lt c) (devP_true c _ (by simp))) hw) $$ [HP]
  · isplitr; · iexact HC
    iexact HP
  iintro HP
  iapply (plane_next X W K c (4 : Fin 7) (n := 4) rfl (dev_eq (k0_dev13_lt c) (devP_false c _ (by simp))) (dev_eq (k0_dev14_lt c) (devP_true c _ (by simp))) hw) $$ [HP]
  · isplitr; · iexact HC
    iexact HP
  iintro HP
  iapply (plane_next X W K c (5 : Fin 7) (n := 5) rfl (dev_eq (k0_dev15_lt c) (devP_false c _ (by simp))) (dev_eq (k0_dev16_lt c) (devP_true c _ (by simp))) hw) $$ [HP]
  · isplitr; · iexact HC
    iexact HP
  iintro HP
  ihave HP := (show PlaneAt X W c (5 + 1) ⊢ iprop(At c 12 ∗ own c xM (X c) ∗ stg X W false false 6 c ∗ stg X W false true 6 c) from Entails.of_eq rfl) $$ HP
  icases HP with ⟨HA, HX, HS0, HS1⟩
  iapply (wp_seq c)
  iapply (planeLast_op X W K c (dev_eq (k0_dev17_lt c) (devP_false c _ (by simp))) (dev_eq (k0_dev18_lt c) (devP_true c _ (by simp))) hw (n := 12) rfl)
    $$ [HA HX HS0 HS1 HP0 HP1]
  · isplitr; · iexact HC
    isplitl [HA]; · iexact HA
    isplitl [HX]; · iexact HX
    isplitl [HS0]; · iexact HS0
    isplitl [HS1]; · iexact HS1
    isplitl [HP0]; · iexact HP0
    iexact HP1
  iintro ⟨HA, HX, HS0, HS1, HP0, HP1⟩
  iapply (wp_seq c)
  iapply (seedZ_op X W c false (k0_off5_inb c) (off5_eq c)) $$ [HP0 HZ0]
  · isplitl [HP0]; · iexact HP0
    iapply (free_slots true false c); iexact HZ0
  iintro ⟨HP0, HZ0⟩
  iapply (wp_seq c)
  iapply (seedZ_op X W c true (k0_off6_inb c) (off6_eq c)) $$ [HP1 HZ1]
  · isplitl [HP1]; · iexact HP1
    iapply (free_slots true true c); iexact HZ1
  iintro ⟨HP1, HZ1⟩
  ihave HP := (show iprop(At c (12 + 2) ∗ own c (plane false) (totP X W false c) ∗ own c (plane true) (totP X W true c)
    ∗ stg X W true false 0 c ∗ stg X W true true 0 c) ⊢ ColAt X W c 0 from Entails.of_eq rfl) $$ [HA HP0 HP1 HZ0 HZ1]
  · isplitl [HA]; · iexact HA
    isplitl [HP0]; · iexact HP0
    isplitl [HP1]; · iexact HP1
    isplitl [HZ0]; · iexact HZ0
    iexact HZ1
  iapply (col_next X W K c (0 : Fin 3) (n := 0) rfl (dev_eq (k0_dev19_lt c) (devZ_false c _ (by simp))) (dev_eq (k0_dev20_lt c) (devZ_true c _ (by simp)))) $$ [HP]
  · isplitr; · iexact HC
    iexact HP
  iintro HP
  iapply (col_next X W K c (1 : Fin 3) (n := 1) rfl (dev_eq (k0_dev21_lt c) (devZ_false c _ (by simp))) (dev_eq (k0_dev22_lt c) (devZ_true c _ (by simp)))) $$ [HP]
  · isplitr; · iexact HC
    iexact HP
  iintro HP
  ihave HP := (show ColAt X W c (1 + 1) ⊢ iprop(At c 18 ∗ own c (plane false) (totP X W false c) ∗ own c (plane true) (totP X W true c)
    ∗ stg X W true false 2 c ∗ stg X W true true 2 c) from Entails.of_eq rfl) $$ HP
  icases HP with ⟨HA, HP0, HP1, HZ0, HZ1⟩
  iapply (colLast_op X W K c (dev_eq (k0_dev23_lt c) (devZ_false c _ (by simp))) (dev_eq (k0_dev24_lt c) (devZ_true c _ (by simp))) (n := 18) rfl)
    $$ [HA HP0 HP1 HZ0 HZ1 HO HW]
  · isplitr; · iexact HC
    isplitl [HA]; · iexact HA
    isplitl [HP0]; · iexact HP0
    isplitl [HP1]; · iexact HP1
    isplitl [HZ0]; · iexact HZ0
    isplitl [HZ1]; · iexact HZ1
    isplitl [HO]; · iexact HO
    iexact HW
  iintro ⟨HA, HP0, HP1, HZ0, HZ1, HO, HW⟩
  iapply Hk
  isplitl [HA]; · iexact HA
  isplitl [HX]; · iexact HX
  isplitl [HS0]; · iexact HS0
  isplitl [HS1]; · iexact HS1
  isplitl [HZ0]; · iexact HZ0
  isplitl [HZ1]; · iexact HZ1
  isplitl [HP0]; · iapply (some_of c (plane false) _); iexact HP0
  isplitl [HP1]; · iapply (some_of c (plane true) _); iexact HP1
  isplitl [HO]; · iexact HO
  iexact HW

theorem spine_op {Φ : PUnit → sProp 𝕄} : iprop(ctx X W K ∗ before X W c) ⊢ iprop((after X W c -∗ Φ ⟨⟩) -∗ WP c spine Φ) := by
  unfold before after scratch
  iintro ⟨#HC, HO, HS, HX, HW, Hout, Hb0, Hb1, Hb2, Hb3, Hp0, Hp1, Hown⟩ Hk
  ihave Hb0 := (ring_open false false c) $$ Hb0
  ihave Hb1 := (ring_open false true c) $$ Hb1
  ihave Hb2 := (ring_open true false c) $$ Hb2
  ihave Hb3 := (ring_open true true c) $$ Hb3
  icases Hb0 with ⟨Hs0, Hr0, Hg0, Hc0⟩
  icases Hb1 with ⟨Hs1, Hr1, Hg1, Hc1⟩
  icases Hb2 with ⟨Hs2, Hr2, Hg2, Hc2⟩
  icases Hb3 with ⟨Hs3, Hr3, Hg3, Hc3⟩
  rw [spine_eq]
  iapply (wp_seq c)
  iapply (device_op c)
  iapply (wp_seq c)
  iapply (handshake_op X W K c) $$ [HO HS Hr0 Hg0 Hr1 Hg1 Hr2 Hg2 Hr3 Hg3]
  · isplitr; · iexact HC
    isplitl [HO]; · iexact HO
    isplitl [HS]; · iexact HS
    isplitl [Hr0 Hg0]
    · iapply (land_split false false c)
      isplitl [Hr0]; · iexact Hr0
      iexact Hg0
    isplitl [Hr1 Hg1]
    · iapply (land_split false true c)
      isplitl [Hr1]; · iexact Hr1
      iexact Hg1
    isplitl [Hr2 Hg2]
    · iapply (land_split true false c)
      isplitl [Hr2]; · iexact Hr2
      iexact Hg2
    iapply (land_split true true c)
    isplitl [Hr3]; · iexact Hr3
    iexact Hg3
  iintro ⟨HA, Hbar⟩
  iapply (wp_seq c)
  iapply (loadW_op W c false inb_S64x2048_S64x1024_0_0 rfl) $$ HW
  iintro HW
  iapply (wp_seq c)
  iapply (loadW_op W c true inb_S64x2048_S64x1024_0_1024 rfl) $$ HW
  iintro HW
  iapply (wp_seq c)
  iapply (reduces_op X W K c (w := fun b => bif b then wv W true c else wv W false c) (fun b => by cases b <;> rfl)) $$ [HA HX Hs0 Hs1 Hs2 Hs3 Hp0 Hp1 Hout Hown]
  · isplitr; · iexact HC
    isplitl [HA]; · iexact HA
    isplitl [HX]; · iexact HX
    isplitl [Hs0]; · iapply (stg_split false false c); iexact Hs0
    isplitl [Hs1]; · iapply (stg_split false true c); iexact Hs1
    isplitl [Hs2]; · iapply (stg_split true false c); iexact Hs2
    isplitl [Hs3]; · iapply (stg_split true true c); iexact Hs3
    isplitl [Hp0]; · iexact Hp0
    isplitl [Hp1]; · iexact Hp1
    isplitl [Hout]; · iexact Hout
    iexact Hown
  iintro ⟨HA, HX, Hs0, Hs1, Hs2, Hs3, Hp0, Hp1, Hout, Hown⟩
  iapply (wp_seq c)
  iapply (ownHalf_op X W c false inb_S64x2048_S64x1024_0_0 rfl) $$ [Hown Hc2]
  · isplitl [Hown]; · iexact Hown
    iexact Hc2
  iintro ⟨Hown, Hc2⟩
  iapply (wp_seq c)
  iapply (ownHalf_op X W c true inb_S64x2048_S64x1024_0_1024 rfl) $$ [Hown Hc3]
  · isplitl [Hown]; · iexact Hown
    iexact Hc3
  iintro ⟨Hown, Hc3⟩
  iapply (wp_seq c)
  iapply (ownPlane_op X W c false) $$ [Hc2 Hc0]
  · isplitl [Hc2]; · iexact Hc2
    iapply (gsrc_pS false c); iexact Hc0
  iintro ⟨Hc2, Hc0⟩
  iapply (wp_seq c)
  iapply (ownPlane_op X W c true) $$ [Hc3 Hc1]
  · isplitl [Hc3]; · iexact Hc3
    iapply (gsrc_pS true c); iexact Hc1
  iintro ⟨Hc3, Hc1⟩
  iapply (gathers_op X W K c) $$ [HA Hc2 Hc3 Hout Hc0 Hc1]
  · isplitr; · iexact HC
    isplitl [HA]; · iexact HA
    isplitl [Hc2]; · iexact Hc2
    isplitl [Hc3]; · iexact Hc3
    isplitl [Hout]; · iexact Hout
    isplitl [Hc0]; · iexact Hc0
    iexact Hc1
  iintro ⟨HA, Hz0, Hz1, Hq0, Hq1, Hout⟩
  unfold At
  icases HA with ⟨-, HO, HD⟩
  rw [owedFrom_end]
  ihave HD' := (done_all c) $$ HD
  icases HD' with ⟨Hcl, Hl0, Hl1, Hl2, Hl3⟩
  iapply Hk
  isplitl [HO]; · iexact HO
  isplitl [Hbar Hcl]
  · isplitl [Hbar]; · iexact Hbar
    iexact Hcl
  isplitl [HX]; · iexact HX
  isplitl [HW]; · iexact HW
  isplitl [Hout]; · iexact Hout
  isplitl [Hs0 Hl0 Hq0]
  · iapply (ring_close X W false false c)
    isplitl [Hs0]; · iexact Hs0
    isplitl [Hl0]; · iexact Hl0
    iexact Hq0
  isplitl [Hs1 Hl1 Hq1]
  · iapply (ring_close X W false true c)
    isplitl [Hs1]; · iexact Hs1
    isplitl [Hl1]; · iexact Hl1
    iexact Hq1
  isplitl [Hs2 Hl2 Hz0]
  · iapply (ring_close X W true false c)
    isplitl [Hs2]; · iexact Hs2
    isplitl [Hl2]; · iexact Hl2
    iexact Hz0
  isplitl [Hs3 Hl3 Hz1]
  · iapply (ring_close X W true true c)
    isplitl [Hs3]; · iexact Hs3
    isplitl [Hl3]; · iexact Hl3
    iexact Hz1
  isplitl [Hp0]; · iexact Hp0
  isplitl [Hp1]; · iexact Hp1
  iapply (some_of c ownM _); iexact Hown

end

end Cert.KernelIdeal.Ring

end
-- ==== Proof.Body.lean ====
/-
# The printed body is the short program

Both are unfolded to their straight line of operations, and the two lines are the same.
-/
module

public import proofs.«01_k».proof.Proof.Spine

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

set_option maxHeartbeats 0 in
theorem body_eq (t : Fin cfg0.N) : bodyAt0 (F := F) t = spine := by
  unfold bodyAt0
  simp only [cc0_body_eq_skeleton, cc0_body_skel,
    k0_part1_eq_skeleton, k0_part1_skel, k0_part2_eq_skeleton, k0_part2_skel, k0_part3_eq_skeleton, k0_part3_skel, k0_part4_eq_skeleton,
    k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton,
    k0_part11_skel, k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    k0_part36_eq_skeleton, k0_part36_skel, k0_part37_eq_skeleton, k0_part37_skel, k0_part38_eq_skeleton, k0_part38_skel,
    k0_part39_eq_skeleton, k0_part39_skel, k0_part40_eq_skeleton, k0_part40_skel, k0_part41_eq_skeleton, k0_part41_skel,
    k0_part42_eq_skeleton, k0_part42_skel, k0_part43_eq_skeleton, k0_part43_skel, k0_part44_eq_skeleton, k0_part44_skel,
    k0_part45_eq_skeleton, k0_part45_skel, k0_part46_eq_skeleton, k0_part46_skel, k0_part47_eq_skeleton, k0_part47_skel,
    k0_part48_eq_skeleton, k0_part48_skel, k0_part49_eq_skeleton, k0_part49_skel, k0_part50_eq_skeleton, k0_part50_skel,
    k0_part51_eq_skeleton, k0_part51_skel, k0_part52_eq_skeleton, k0_part52_skel, k0_part53_eq_skeleton, k0_part53_skel,
    k0_part54_eq_skeleton, k0_part54_skel, k0_part55_eq_skeleton, k0_part55_skel, k0_part56_eq_skeleton, k0_part56_skel,
    k0_part57_eq_skeleton, k0_part57_skel, k0_part58_eq_skeleton, k0_part58_skel, k0_part59_eq_skeleton, k0_part59_skel,
    k0_part60_eq_skeleton, k0_part60_skel,
    semSignalWord, semWaitWord, Prog.lift, Prog.bind_op, Prog.bind_ret, Prog.pure_eq_ret]
  simp only [spine, handshake, loadW, seedX, seedZ, planeStep, planeLast, colStep, colLast, ownHalf, ownPlane, colGather, planeGather, colTake, planeTake, takeOp, lastOp, sendOp, recvOp, sentOp, loadSlot, stageOp, loadX, loadPlane, storePlane, storeOut, storeGsrc,
    semSignalWord, semWaitWord, Prog.lift, Prog.bind_op, Prog.bind_ret, Prog.pure_eq_ret]
  rfl

end Cert.KernelIdeal.Ring

end
-- ==== Proof.Launch.lean ====
/-
# The launch

The proof data of the kernel's one region, the body's obligation from the device's run, and the run of the whole
program: on every device the result is `target` of what all devices hold at launch, and every counter ends at
zero.

-/
module

public import proofs.«01_k».proof.Proof.Ghost
public import proofs.«01_k».proof.Proof.Run
public import proofs.«01_k».proof.Proof.Body
public import proofs.«01_k».proof.Proof.Gen.KernelIdeal.Frame
public import Idealize.ShloMosaic.Lib.Rounds.Family
public import Idealize.ShloMosaic.Lib.Pipeline.CollectiveSegs

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (X : Dev nD → Vec F S2048x64 .bf16) (W : Dev nD → Vec F S64x2048 .bf16)

/-! ## Buffers -/

theorem some_whole (c : Dev nD) (b : Ref sig .tc) :
    iprop(∃ f : Buf (Elt F) ((c : Thread nD τ).loc b), ((c : Thread nD τ).loc b) ↦{fullShare} f) = (some' c (Memref.whole b) : sProp 𝕄) := by
  unfold some' own ownsTc
  simp only [owns_whole]

/-- A device's working buffers, in the order they are declared. -/
theorem scratch_eq (c : Dev nD) : (Pipeline.scopedRest cfg0.spec c : sProp 𝕄)
    = iprop(some' c (sbuf false false) ∗ some' c (sbuf false true) ∗ some' c (rbuf ⟨false, false, false⟩) ∗ some' c (rbuf ⟨false, false, true⟩)
      ∗ some' c (sbuf true false) ∗ some' c (sbuf true true) ∗ some' c (rbuf ⟨false, true, false⟩) ∗ some' c (rbuf ⟨false, true, true⟩)
      ∗ some' c (plane false) ∗ some' c (plane true) ∗ some' c ownM
      ∗ some' c (gsrc true false) ∗ some' c (gsrc true true) ∗ some' c (rbuf ⟨true, true, false⟩) ∗ some' c (rbuf ⟨true, true, true⟩)
      ∗ some' c (gsrc false false) ∗ some' c (gsrc false true) ∗ some' c (rbuf ⟨true, false, false⟩) ∗ some' c (rbuf ⟨true, false, true⟩)) := by
  rw [show (Pipeline.scopedRest cfg0.spec c : sProp 𝕄) = Pipeline.scopedRest spec0 c from rfl, scopedRest0_eq]
  simp only [some_whole]
  rfl

theorem scratch_in (c : Dev nD) : (Pipeline.scopedRest cfg0.spec c : sProp 𝕄) ⊢ scratch c := by
  rw [scratch_eq]
  unfold scratch ringBufs
  iintro ⟨H0, H1, H2, H3, H4, H5, H6, H7, H8, H9, H10, H11, H12, H13, H14, H15, H16, H17, H18⟩
  isplitl [H0 H2 H17 H15]
  · isplitl [H0]; · iexact H0
    isplitl [H2]; · iexact H2
    isplitl [H17] <;> iassumption
  isplitl [H1 H3 H18 H16]
  · isplitl [H1]; · iexact H1
    isplitl [H3]; · iexact H3
    isplitl [H18] <;> iassumption
  isplitl [H4 H6 H13 H11]
  · isplitl [H4]; · iexact H4
    isplitl [H6]; · iexact H6
    isplitl [H13] <;> iassumption
  isplitl [H5 H7 H14 H12]
  · isplitl [H5]; · iexact H5
    isplitl [H7]; · iexact H7
    isplitl [H14] <;> iassumption
  isplitl [H8]; · iexact H8
  isplitl [H9]; · iexact H9
  iexact H10

theorem scratch_out (c : Dev nD) : scratch c ⊢ (Pipeline.scopedRest cfg0.spec c : sProp 𝕄) := by
  rw [scratch_eq]
  unfold scratch ringBufs
  iintro ⟨⟨H0, H2, H17, H15⟩, ⟨H1, H3, H18, H16⟩, ⟨H4, H6, H13, H11⟩, ⟨H5, H7, H14, H12⟩, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-! ## The counters read back -/

/-- After a device's run its cells can be closed: their counters are zero and the device's again. -/
theorem close_all (K : Dev nD × CI → ℕ) (c : Dev nD) : iprop(ctx X W K ∗ atPos ER (barCell c) 1 ∅ 0 ∗ closed c)
    ⊢ |={Set.univ}=> iprop(unscopedSems0 c ∗ Pipeline.ownSems0 (Ix := Unit) (Name := ℕ) (U := UU) (Lvl := ℕ) (Val := Elt F) (τ := τ) osem c : sProp 𝕄) := by
  have hc : (bigSep Finset.univ fun i : CI => iprop(cellInv ER (sched X W) (K (c, i)) (kcell (c, i)) ∗ atPos ER (kcell (c, i)) 1 ∅ 0))
      ⊢ (|={Set.univ}=> bigSep Finset.univ fun i : CI => semVal (kcell (c, i)) 0 : sProp 𝕄) :=
    Rounds.cells_close ER (sched X W) Finset.univ (fun i : CI => kcell (c, i)) (fun i => K (c, i)) (fun _ _ => Set.mem_univ _) (fun _ _ h => h)
      (fun _ => 1) (fun i _ => duties_later X W (kcell (c, i)))
  have hp : iprop(ctx X W K ∗ bigSep Finset.univ fun i : CI => (atPos ER (kcell (c, i)) 1 ∅ 0 : sProp 𝕄))
      ⊢ bigSep Finset.univ fun i : CI => iprop(cellInv ER (sched X W) (K (c, i)) (kcell (c, i)) ∗ atPos ER (kcell (c, i)) 1 ∅ 0) :=
    (sep_mono_left (BI.bigSep_of_persistent Finset.univ (ctx X W K))).trans (by
      rw [← bigSep_sep']; exact bigSep_mono fun i _ => sep_mono_left (ctx_inv X W K (c, i)))
  have ha : iprop(atPos ER (barCell c) 1 ∅ 0 ∗ closed c) ⊢ bigSep Finset.univ fun i : CI => (atPos ER (kcell (c, i)) 1 ∅ 0 : sProp 𝕄) := by
    rw [ci_sep, xfer_sep]; unfold closed; rw [bigSep_sep']
  rw [sems0_eq]
  iintro ⟨#HC, Ha⟩
  ihave Ha' := ha $$ Ha
  imod hc $$ [Ha'] with H
  · iapply hp
    isplitr; · iexact HC
    iexact Ha'
  imodintro
  iexact H

/-! ## The proof data -/

variable (m : (ℓ : Loc nD τ sig) → Buf (Elt F) ℓ) (ρ : Dev nD → PrngReg)

/-- A device's columns of `x` and rows of `w`, as the launch stages them. -/
def Xof (c : Dev nD) : Vec F S2048x64 .bf16 := iblk m c 0 t0_0
def Wof (c : Dev nD) : Vec F S64x2048 .bf16 := iblk m c 1 t0_0

def Φ₀ (c : Dev nD) : sProp 𝕄 := iprop((∃ K, ctx (Xof m) (Wof m) K ∗ start₀ c) ∗ scratch c)
def Φ₁ (c : Dev nD) : sProp 𝕄 :=
  iprop((unscopedSems0 c ∗ Pipeline.ownSems0 (Ix := Unit) (Name := ℕ) (U := UU) (Lvl := ℕ) (Val := Elt F) (τ := τ) osem c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xof m c
    | ⟨1, _⟩ => Wof m c
    | ⟨2, _⟩ => target (Xof m) (Wof m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

theorem before_x (c : Dev nD) (d) : (dats m ρ 0 c).before 0 t0_0 d = Xof m c := by
  unfold Dat.before; rw [if_pos (fetch0_0 t0_0)]; rfl
theorem before_w (c : Dev nD) (d) : (dats m ρ 0 c).before 1 t0_0 d = Wof m c := by
  unfold Dat.before; rw [if_pos (fetch0_1 t0_0)]; rfl

def bodyPre (c : Dev nD) : sProp 𝕄 :=
  iprop(Φ₀ m c ∗ (dats m ρ 0 c).owesAt () t0_0.castSucc
    ∗ (∃ d, own c xM ((dats m ρ 0 c).before 0 t0_0 d)) ∗ (∃ d, own c wM ((dats m ρ 0 c).before 1 t0_0 d))
    ∗ ∃ d, own c oM ((dats m ρ 0 c).before 2 t0_0 d))
def bodyPost (c : Dev nD) : sProp 𝕄 :=
  iprop(Φ₁ c ∗ (dats m ρ 0 c).owesAt () t0_0.succ ∗ own c xM (Xof m c) ∗ own c wM (Wof m c) ∗ own c oM (target (Xof m) (Wof m) c))

theorem owes_in (c : Dev nD) : (dats m ρ 0 c).owesAt () t0_0.castSucc ⊢ (owing c (O₀ c) : sProp 𝕄) := by
  unfold Dat.owesAt Pipeline.owesWithin owing
  rw [show (dats m ρ 0 c).owed t0_0.castSucc = O₀ c from rfl]
  iintro ⟨%Wt, -, H⟩
  iexists Wt; iexact H
theorem owes_out (c : Dev nD) : (owing c 0 : sProp 𝕄) ⊢ (dats m ρ 0 c).owesAt () t0_0.succ := by
  unfold Dat.owesAt Pipeline.owesWithin owing
  rw [show (dats m ρ 0 c).owed t0_0.succ = 0 from rfl]
  iintro ⟨%Wt, H⟩
  iexists Wt
  isplitr; · ipureintro; exact fun _ _ => Or.inl trivial
  iexact H

theorem body_run (c : Dev nD) : bodyPre m ρ c ⊢ WP c spine fun _ => bodyPost m ρ c := by
  have hw : WP c (spine (F := F)) (fun _ => iprop(|={Set.univ}=> bodyPost m ρ c)) ⊢ WP c spine fun _ => bodyPost m ρ c := wp_fupd _ _ _ _ _
  unfold bodyPre Φ₀
  iintro ⟨⟨⟨%K, #HC, HS⟩, Hb⟩, Ho, ⟨%d0, Hx⟩, ⟨%d1, Hw⟩, ⟨%d2, Hout⟩⟩
  rw [before_x, before_w]
  ihave Ho' := (owes_in m ρ c) $$ Ho
  iapply hw
  iapply (spine_op (Xof m) (Wof m) K c) $$ [HS Hb Ho' Hx Hw Hout]
  · isplitr; · iexact HC
    unfold before
    isplitl [Ho']; · iexact Ho'
    isplitl [HS]; · iexact HS
    isplitl [Hx]; · iexact Hx
    isplitl [Hw]; · iexact Hw
    isplitl [Hout]; · iexists _; iexact Hout
    iexact Hb
  unfold after
  iintro ⟨Ho, Ha, Hx, Hw, Hout, Hb⟩
  imod (close_all (Xof m) (Wof m) K c) $$ [Ha] with Hs
  · isplitr; · iexact HC
    iexact Ha
  imodintro
  unfold bodyPost Φ₁
  isplitl [Hs Hb]
  · isplitl [Hs] <;> iassumption
  isplitl [Ho]; · iapply (owes_out m ρ c); iexact Ho
  isplitl [Hx]; · iexact Hx
  isplitl [Hw]; · iexact Hw
  iexact Hout

theorem body_obligation (c : Dev nD) : BodyObligation (dats (F := F) m ρ 0 c) (defs₀ (F := F)) 𝒱₀ () Set.univ := fun t => by
  rw [show t = t0_0 from fin_N0 t]
  rw [show (bigSep Finset.univ : (Fin cfg0.W → sProp 𝕄) → sProp 𝕄) = fun Φ => iprop(Φ (0 : Fin 3) ∗ Φ (1 : Fin 3) ∗ Φ (2 : Fin 3)) from funext bigSep_W0]
  show bodyPre m ρ c ⊢ wp frame (wpE (defs₀ (F := F)) 𝒱₀ (c : Thread nD τ) none) Set.univ (bodyAt0 t0_0) (fun _ => bodyPost m ρ c)
  rw [body_eq]
  exact body_run m ρ c

/-! ## The launch's conditions -/

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

def start (c : Dev nD) : sProp 𝕄 := iprop(∃ K, ctx (Xof m) (Wof m) K ∗ start₀ c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xof m) (Wof m) c)
      ⊢ |={Set.univ}=> iprop(start m c ∗ emp) := by
  unfold start G' records
  iintro ⟨-, Hlev, Hcr, -, ⟨%K, ⟨HI, HR⟩, Hl⟩⟩
  ihave Hs := (start_of (F := F) c) $$ [Hl Hcr]
  · isplitl [Hl] <;> iassumption
  imodintro
  isplitl
  · iexists K
    isplitl [HI HR Hlev]
    · unfold ctx
      isplitl [HI]; · iexact HI
      isplitl [HR]; · iexact HR
      iexact Hlev
    iexact Hs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ start
  iintro ⟨Hs, -, Hr⟩
  isplitl [Hs]; · iexact Hs
  iapply (scratch_in c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨⟨Hu, Ho⟩, Hr⟩
  isplitl [Hu]; · iexact Hu
  isplitl [Ho]; · iexact Ho
  iapply (scratch_out c); iexact Hr

theorem stage_low : ∀ (w : Fin cfg0.W) (s : Fin (cfg0.win w).nbuf), ∀ i, csem i ≠ .dma ((cfg0.win w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (by
      have h : ciOf (SemLoc.dma ((cfg0.win w).sem s)) = none := by
        unfold ciOf; rw [dif_neg fun ⟨i, hi⟩ => stage_low w s i hi]
      exact congrArg levOf h) _ (by
      rcases t with ⟨_ | _, ht⟩
      · exact Or.inl rfl
      · exact Or.inr rfl)

/-! ## The run -/

/-- The arrays at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution terminates, and ends
    with the arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xof m) (Wof m)) (G' := G' (Xof m) (Wof m)) (u₀ := u₀)
    (hu₀ := by
      unfold u₀
      iintro Hu
      ihave H := (ownU_pair _ _) $$ Hu
      icases H with ⟨HP, HX⟩
      imod (fund (Xof m) (Wof m)) $$ HX with HG
      imodintro
      isplitl [HP] <;> iassumption)
    (hglob := glob (Xof m) (Wof m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdeal.Ring

end
-- ==== Proof.Frames.lean ====
/-
# The frames

Every run ends, leaves the arguments as they were and every counter at zero. The kernel's and the idealized
kernel's are the one run at two kinds of float values.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 65536

noncomputable section

namespace Cert.Proof

open Idealize.ShloMosaic Idealize.ShloMosaic.TcCoe Idealize.SL.Sem
open Cert.KernelIdeal.Ring (run_main finalA_x finalA_w)

/-- The idealized kernel's frame: its run, read at the arguments. -/
theorem frame_kernelIdeal : Cert.quiescent_KernelIdeal := fun m ρ _ =>
  (θ_run Cert.KernelIdeal.defs _ _).mono (fun _ h => ⟨fun c => ⟨(h.1 c 0).trans (finalA_x m ρ c), (h.1 c 1).trans (finalA_w m ρ c)⟩, h.2⟩)
    (run_main (F := Ideal) m ρ)

/-- The two programs are one: the same body under the same label, -/
theorem body_table {F : FTy → Type} [FloatOps F] : Cert.KernelIdeal.defs₀ (F := F) = Cert.Kernel.defs₀ (F := F) := by
  unfold Cert.KernelIdeal.defs₀ Cert.Kernel.defs₀
  refine congrArg Defs.onTc (funext fun l => funext fun a => ?_)
  match l, a with
  | ⟨0, _⟩, (t, s) => rfl
  | ⟨n + 1, h⟩, _ => exact absurd h (Nat.not_lt.2 (Nat.le_add_left _ _))
/-- and the same region. -/
theorem table {F : FTy → Type} [FloatOps F] : Cert.KernelIdeal.defs (F := F) = Cert.Kernel.defs (F := F) := by
  unfold Cert.KernelIdeal.defs Cert.Kernel.defs
  exact congrArg (Pipeline.defs (Cert.KernelIdeal.pcfgs (F := F))) body_table

/-- The kernel's frame: the same run, at the words. -/
theorem frame_kernel : Cert.quiescent_Kernel := fun m ρ _ => by
  have h := (θ_run Cert.KernelIdeal.defs _ _).mono (fun _ h => (⟨fun c => ⟨(h.1 c 0).trans (finalA_x m ρ c), (h.1 c 1).trans (finalA_w m ρ c)⟩, h.2⟩ :
      (∀ c : Dev Cert.KernelIdeal.nD, _ ∧ _) ∧ _)) (run_main (F := Bits) m ρ)
  rw [table] at h
  exact h

/-- The reference's frame. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Total.lean ====
/-
# The totals over the reals

At the ideal values a ring's running sum is the plain sum over the devices it has passed, so the total of both
rings is the sum over all thirty-two devices, and that is the product of the whole arrays.
-/
module

public import proofs.«01_k».proof.Proof.Values
public import Idealize.ShloMosaic.Lib.Pointwise

@[expose] public section

set_option maxRecDepth 65536

noncomputable section

namespace Cert.KernelIdeal.Ring

open Cert.KernelIdeal Cert.KernelIdeal.Gen
open Idealize.ShloMosaic Idealize.ShloMosaic.TcCoe

/-! ## Rectangles at an index -/

/-- Where a rectangle's element lies. -/
theorem emb_ix2 {R C h w o p : ℕ} (H) (a : Fin h) (b : Fin w) (a' : Fin R) (b' : Fin C) (ha : a'.val = o + a.val) (hb : b'.val = p + b.val) :
    (Rect.unit (s := (⟨2, ![R, C]⟩ : Shape)) ![o, p] ![h, w] H).emb (ix2 a b) = ix2 a' b' := by
  funext d
  apply Fin.ext
  rw [Rect.emb_apply]
  match d with
  | ⟨0, _⟩ => show o + 1 * a.val = a'.val; omega
  | ⟨1, _⟩ => show p + 1 * b.val = b'.val; omega

/-- A cast to the same shape changes nothing. -/
theorem cast_same {s : Shape} {α : Type} (v : s.Idx → α) (h : s.ShapeCasts s) : shapeCast s v h = v :=
  funext fun i => congrArg v (Shape.reshapeEquiv_self h i)

/-- Row `k` of device `c`'s part, in the whole array. -/
def deep (c : Dev nD) (k : Fin 64) : Fin 2048 := ⟨c.val * 64 + k.val, by have := c.isLt; change c.val < 32 at this; omega⟩
/-- A column of half `b`, in the whole row. -/
def wide (b : Bool) (l : Fin 1024) : Fin 2048 := ⟨(bif b then 1024 else 0) + l.val, by cases b <;> simp only [cond] <;> omega⟩
/-- A row of chunk `n` of the plane ring. -/
def rowP (n : Fin 8) (r : Fin 256) : Fin 2048 := ⟨256 * n.val + r.val, by omega⟩
/-- A row of chunk `n` of the column ring. -/
def rowZ (n : Fin 4) (r : Fin 64) : Fin 256 := ⟨64 * n.val + r.val, by omega⟩

/-! ## A ring's running sum -/

/-- The chunk handled at a step is the one the device before handled at the step before. -/
theorem ix_succ : ∀ z b (c : Dev nD), ∀ t < lenZ z, ix z b (t + 1) c = ix z b t (prev z b c) := by decide +kernel

/-- At the ideal values, after step `t` the running sum is the sum of what the devices behind hold of the chunk. -/
theorem acc_sum (z b : Bool) (part : (n : ℕ) → n < lenZ z + 1 → Dev nD → FVec Ideal (shp z) .f32) (p : ℕ → Dev nD → EReal) (i : (shp z).Idx)
    (hp : ∀ n h c, part n h c i = p n c) : ∀ t ≤ lenZ z, ∀ c, acc z b part t c i = ∑ s ∈ Finset.range (t + 1), p (ix z b t c) ((prev z b)^[s] c)
  | 0, _, c => by rw [Finset.sum_range_one]; exact hp _ _ c
  | t + 1, ht, c => by
    have ih := acc_sum z b part p i hp t (by omega) (prev z b c)
    show part _ _ c i + acc z b part t (prev z b c) i = _
    rw [hp, ih, Finset.sum_range_succ' _ (t + 1), add_comm, ix_succ z b c t (by omega)]
    rfl

/-- The device `s` steps behind, by its place, and the chunk that the last step handles: the device's own. -/
theorem behindP : ∀ b (c : Dev nD) (s : Fin 8), (prev false b)^[s.val] c = devAt (bif b then pos c + s else pos c - s) (lay c) := by decide +kernel
theorem behindZ : ∀ b (c : Dev nD) (s : Fin 4), (prev true b)^[s.val] c = devAt (pos c) (bif b then lay c + s else lay c - s) := by decide +kernel
theorem ix_lastP : ∀ b (c : Dev nD), ix false b 7 c = (pos c).val := by decide +kernel
theorem ix_lastZ : ∀ b (c : Dev nD), ix true b 3 c = (lay c).val := by decide +kernel

/-- Going once around a ring, either way. -/
theorem around {n : ℕ} [NeZero n] (b : Bool) (q : Fin n) (f : Fin n → EReal) : ∑ s : Fin n, f (bif b then q + s else q - s) = ∑ s, f s := by
  cases b
  · exact Equiv.sum_comp (Equiv.subLeft q) f
  · exact Equiv.sum_comp (Equiv.addLeft q) f

/-- The plane ring's total: the sum over the plane. -/
theorem accP_total (b : Bool) (part : (n : ℕ) → n < lenZ false + 1 → Dev nD → FVec Ideal (shp false) .f32) (p : ℕ → Dev nD → EReal) (i : (shp false).Idx)
    (hp : ∀ n h c, part n h c i = p n c) (c : Dev nD) : acc false b part 7 c i = ∑ q : Fin 8, p (pos c).val (devAt q (lay c)) := by
  rw [acc_sum false b part p i hp 7 (by decide) c, ix_lastP, Finset.sum_range]
  refine (Finset.sum_congr rfl fun s _ => ?_).trans (around b (pos c) fun q => p (pos c).val (devAt q (lay c)))
  exact congrArg (p _) (behindP b c s)
/-- The column ring's total: the sum over the planes. -/
theorem accZ_total (b : Bool) (part : (n : ℕ) → n < lenZ true + 1 → Dev nD → FVec Ideal (shp true) .f32) (p : ℕ → Dev nD → EReal) (i : (shp true).Idx)
    (hp : ∀ n h c, part n h c i = p n c) (c : Dev nD) : acc true b part 3 c i = ∑ z : Fin 4, p (lay c).val (devAt (pos c) z) := by
  rw [acc_sum true b part p i hp 3 (by decide) c, ix_lastZ, Finset.sum_range]
  refine (Finset.sum_congr rfl fun s _ => ?_).trans (around b (lay c) fun z => p (lay c).val (devAt (pos c) z))
  exact congrArg (p _) (behindZ b c s)

/-! ## All the devices, and the whole contraction -/

/-- A device is its plane and its place there. -/
def placeEquiv : Fin 4 × Fin 8 ≃ Dev nD :=
  ⟨fun a => devAt a.2 a.1, fun c => (lay c, pos c), fun a => Prod.ext (lay_devAt _ _) (pos_devAt _ _), devAt_pos_lay⟩

/-- The sum over planes and places is the sum over the devices; -/
theorem sum_places (f : Dev nD → EReal) : ∑ z : Fin 4, ∑ q : Fin 8, f (devAt q z) = ∑ c, f c := by
  rw [← Equiv.sum_comp placeEquiv f, Fintype.sum_prod_type]; rfl

/-- the sum over devices and their rows is the sum over all rows. -/
theorem sum_deep (f : Fin 2048 → EReal) : ∑ c : Dev nD, ∑ k : Fin 64, f (deep c k) = ∑ k, f k := by
  rw [← Equiv.sum_comp (finProdFinEquiv (m := 32) (n := 64)) f, Fintype.sum_prod_type]
  refine Finset.sum_congr rfl fun c _ => Finset.sum_congr rfl fun k _ => congrArg f (Fin.ext ?_)
  show c.val * 64 + k.val = k.val + 64 * c.val
  omega

section Data
variable (X : Dev nD → Vec Ideal S2048x64 .bf16) (W : Dev nD → Vec Ideal S64x2048 .bf16)

/-- An element of a half of `w`. -/
theorem wv_apply (b : Bool) (c : Dev nD) (k : Fin 64) (l : Fin 1024) : wv W b c (ix2 k l) = W c (ix2 k (wide b l)) := by
  refine (congrFun (cast_same (sub (halfR b) (W c)) _) _).trans ?_
  exact congrArg (W c) (emb_ix2 (o := 0) (p := bif b then 1024 else 0) _ k l _ _ (by omega) rfl)

/-- A device's product of its columns of `x` with its rows of `w`. -/
def share (c : Dev nD) (r l : Fin 2048) : EReal := ∑ k : Fin 64, X c (ix2 r k) * W c (ix2 k l)

/-- A chunk of the plane ring, its total, and a chunk of the column ring, at an element. -/
theorem partP_apply (b : Bool) (n : ℕ) (h : n < lenZ false + 1) (c : Dev nD) (r : Fin 256) (l : Fin 1024) :
    partP X W b n h c (ix2 r l) = share X W c (rowP ⟨n, h⟩ r) (wide b l) := by
  unfold partP share
  pointwise [xdot]
  refine Finset.sum_congr rfl fun k _ => ?_
  rw [wv_apply]
  exact congrArg (· * _) (congrArg (X c) (emb_ix2 (o := 256 * n) (p := 0) _ r k _ _ rfl (by omega)))

theorem totP_apply (b : Bool) (c : Dev nD) (r : Fin 256) (l : Fin 1024) :
    totP X W b c (ix2 r l) = ∑ q : Fin 8, share X W (devAt q (lay c)) (rowP (pos c) r) (wide b l) := by
  unfold totP
  refine (accP_total b _ (fun n d => if h : n < 8 then share X W d (rowP ⟨n, h⟩ r) (wide b l) else 0) _ (fun n h d => ?_) c).trans ?_
  · have h' : n < 8 := h
    rw [dif_pos h']; exact partP_apply X W b n h d r l
  · exact Finset.sum_congr rfl fun q _ => dif_pos (pos c).isLt

theorem partZ_apply (b : Bool) (n : ℕ) (h : n < lenZ true + 1) (c : Dev nD) (r : Fin 64) (l : Fin 1024) :
    partZ X W b n h c (ix2 r l) = totP X W b c (ix2 (rowZ ⟨n, h⟩ r) l) :=
  congrArg (totP X W b c) (emb_ix2 (o := 64 * n) (p := 0) _ r l _ _ rfl (by omega))

/-- The row of the result that row `r` of device `c`'s block is. -/
def rowOf (c : Dev nD) (r : Fin 64) : Fin 2048 := rowP (pos c) (rowZ (lay c) r)

/-- Both rings' total: the sum over all the devices. -/
theorem totZ_apply (b : Bool) (c : Dev nD) (r : Fin 64) (l : Fin 1024) :
    totZ X W b c (ix2 r l) = ∑ d : Dev nD, share X W d (rowOf c r) (wide b l) := by
  unfold totZ
  refine (accZ_total b _ (fun n d => if h : n < 4 then totP X W b d (ix2 (rowZ ⟨n, h⟩ r) l) else 0) _ (fun n h d => ?_) c).trans ?_
  · have h' : n < 4 := h
    rw [dif_pos h']; exact partZ_apply X W b n h d r l
  · rw [← sum_places]
    refine Finset.sum_congr rfl fun z _ => (dif_pos (lay c).isLt).trans ?_
    rw [totP_apply, pos_devAt, lay_devAt]
    rfl

/-! ## Against the whole arrays -/

variable (A B : FVec Ideal S2048x2048 .bf16)

/-- An element of the product of the whole arrays. -/
def prod (r l : Fin 2048) : EReal := ∑ k : Fin 2048, A (ix2 r k) * B (ix2 k l)

/-- The devices' products add up to the whole one. -/
theorem sum_share (hX : ∀ c r k, X c (ix2 r k) = A (ix2 r (deep c k))) (hW : ∀ c k l, W c (ix2 k l) = B (ix2 (deep c k) l)) (r l : Fin 2048) :
    ∑ d : Dev nD, share X W d r l = prod A B r l := by
  unfold prod
  rw [← sum_deep]
  refine Finset.sum_congr rfl fun c _ => Finset.sum_congr rfl fun k _ => ?_
  rw [hX, hW]

end Data

end Cert.KernelIdeal.Ring

end
-- ==== Proof.Equal.lean ====
/-
# The result over the reals

At the ideal values a device's finished block is the gelu of its rows of the whole product, its rounded copy is
the same, and so every device ends with the reference's result.
-/
module

public import proofs.«01_k».proof.Defs
public import proofs.«01_k».proof.Proof.Total
public import proofs.«01_k».proof.Proof.Launch
public import proofs.«01_k».proof.Proof.Gen.ReferenceIdeal.Run

@[expose] public section

set_option maxRecDepth 65536

noncomputable section

namespace Cert.KernelIdeal.Ring

open Cert.KernelIdeal Cert.KernelIdeal.Gen
open Idealize.ShloMosaic Idealize.ShloMosaic.TcCoe Idealize.SL.Sem

/-- The gelu, with the program's literals. -/
def gelu (y : EReal) : EReal :=
  Ideal.ofBits .f32 0x3F000000#32 * y * (1 + Ideal.tanh (Ideal.ofBits .f32 0x3F4C422A#32 * (y + Ideal.ofBits .f32 0x3D372713#32 * (y * (y * y)))))

/-! ## The reference -/

/-- The reference's result of the whole arrays. -/
abbrev whole (A B : FVec Ideal Cert.ReferenceIdeal.S2048x2048 .bf16) : FVec Ideal Cert.ReferenceIdeal.S2048x2048 .f32 :=
  open Cert.ReferenceIdeal Cert.ReferenceIdeal.Gen in
  have y : FVec Ideal Cert.ReferenceIdeal.S2048x2048 .f32 := extf .f32 (truncf .bf16 (Host.dotGeneral (φ₁ := .bf16) (φ₂ := .bf16) dot_S2048x2048_S2048x2048_S2048x2048_1_0_0_1_n_n none A B) Cert.ReferenceIdeal.Facts₀.bitsLt_bf16_f32) Cert.ReferenceIdeal.Facts₀.bitsLt_bf16_f32
  mulf (mulf (broadcastInDim Cert.ReferenceIdeal.S2048x2048 ![] Cert.ReferenceIdeal.Facts₀.bcast_S_S2048x2048 (constant S_ .f32 0x3F000000#32)) y)
    (addf (broadcastInDim Cert.ReferenceIdeal.S2048x2048 ![] Cert.ReferenceIdeal.Facts₀.bcast_S_S2048x2048 (constant S_ .f32 0x3F800000#32))
      (Host.tanh (mulf (broadcastInDim Cert.ReferenceIdeal.S2048x2048 ![] Cert.ReferenceIdeal.Facts₀.bcast_S_S2048x2048 (constant S_ .f32 0x3F4C422A#32))
        (addf y (mulf (broadcastInDim Cert.ReferenceIdeal.S2048x2048 ![] Cert.ReferenceIdeal.Facts₀.bcast_S_S2048x2048 (constant S_ .f32 0x3D372713#32)) (mulf (mulf y y) y))))))

/-- An element of it: the gelu of an element of the product. -/
theorem whole_apply (A B : FVec Ideal Cert.ReferenceIdeal.S2048x2048 .bf16) (r l : Fin 2048) : whole A B (ix2 r l) = gelu (prod A B r l) := by
  unfold gelu prod
  pointwise [whole]
  rw [mul_comm (_ * _) (∑ x, _)]

/-! ## The kernel's blocks -/

section Data
variable (X : Dev nD → Vec Ideal S2048x64 .bf16) (W : Dev nD → Vec Ideal S64x2048 .bf16) (A B : FVec Ideal S2048x2048 .bf16)
variable (hX : ∀ c r k, X c (ix2 r k) = A (ix2 r (deep c k))) (hW : ∀ c k l, W c (ix2 k l) = B (ix2 (deep c k) l))
include hX hW

/-- A device's total of both rings is its part of the whole product. -/
theorem tot_eq (b : Bool) (c : Dev nD) (r : Fin 64) (l : Fin 1024) : totZ X W b c (ix2 r l) = prod A B (rowOf c r) (wide b l) :=
  (totZ_apply X W b c r l).trans (sum_share X W A B hX hW _ _)

/-- The two halves side by side are a row of the product. -/
theorem halves (c : Dev nD) (r : Fin 64) (l : Fin 2048) :
    (if h : l.val < 1024 then totZ X W false c (ix2 r ⟨l.val, h⟩) else totZ X W true c (ix2 r ⟨l.val - 1024, by omega⟩)) = prod A B (rowOf c r) l := by
  split
  · rw [tot_eq X W A B hX hW]
    exact congrArg (prod A B _) (Fin.ext (Nat.zero_add _))
  · rw [tot_eq X W A B hX hW]
    exact congrArg (prod A B _) (Fin.ext (show 1024 + (l.val - 1024) = l.val by omega))

/-- A finished block, its rounded copy and a half of that: the gelu of the product's rows. -/
theorem blk_apply (c : Dev nD) (r : Fin 64) (l : Fin 2048) : blk X W c (ix2 r l) = gelu (prod A B (rowOf c r) l) := by
  unfold blk gelu
  pointwise [k0_pay43]
  simp only [halves X W A B hX hW]

theorem blkd_apply (c : Dev nD) (r : Fin 64) (l : Fin 2048) : blkd X W c (ix2 r l) = gelu (prod A B (rowOf c r) l) := by
  unfold blkd
  pointwise [k0_pay44]
  exact blk_apply X W A B hX hW c r l

theorem half_apply (b : Bool) (c : Dev nD) (r : Fin 64) (l : Fin 1024) : half X W b c (ix2 r l) = gelu (prod A B (rowOf c r) (wide b l)) := by
  refine (congrFun (cast_same (sub (halfR b) (blkd X W c)) _) _).trans ?_
  refine (congrArg (blkd X W c) (emb_ix2 (o := 0) (p := bif b then 1024 else 0) _ r l r (wide b l) (by omega) rfl)).trans ?_
  exact blkd_apply X W A B hX hW c r _

omit hX hW in
/-- A row of the result is its owner's. -/
theorem rowOf_owner (i : Fin 2048) : rowOf (owner i) (rowIn i.val) = i := by
  apply Fin.ext
  unfold rowOf owner
  rw [pos_devAt, lay_devAt]
  show 256 * (i.val / 256) + (64 * (i.val % 256 / 64) + i.val % 64) = i.val
  omega
omit hX hW in
/-- A column is the one of its half. -/
theorem wide_side (j : Fin 2048) : wide (side j) (colIn j.val) = j := by
  apply Fin.ext
  unfold side
  show (bif decide (1024 ≤ j.val) then 1024 else 0) + j.val % 1024 = j.val
  by_cases h : 1024 ≤ j.val
  · rw [decide_eq_true h]; simp only [cond]; omega
  · rw [decide_eq_false h]; simp only [cond]; omega

/-- An element of what a device ends with, its own or one that came. -/
theorem target_apply (c : Dev nD) (r l : Fin 2048) : target X W c (ix2 r l) = gelu (prod A B r l) := by
  show (if owner r = c then blk X W c _ else half X W (side l) (owner r) _) = _
  split
  · next h =>
    subst h
    refine (congrArg (blk X W (owner r)) (show _ = ix2 (rowIn r.val) l from funext fun a => by match a with | 0 => rfl | 1 => rfl)).trans ?_
    rw [blk_apply X W A B hX hW, rowOf_owner]
  · refine (congrArg (half X W (side l) (owner r)) (show _ = ix2 (rowIn r.val) (colIn l.val) from funext fun a => by match a with | 0 => rfl | 1 => rfl)).trans ?_
    rw [half_apply X W A B hX hW, rowOf_owner, wide_side]

/-- What a device ends with is the reference's result. -/
theorem target_eq (c : Dev nD) : target X W c = whole A B := by
  funext i
  rw [eq_ix2 i]
  exact (target_apply X W A B hX hW c (i 0) (i 1)).trans (whole_apply A B (i 0) (i 1)).symm

end Data

/-! ## The arrays -/

section Arrays
variable {F : FTy → Type} [FloatOps F] (m : (ℓ : Loc nD τ sig) → Buf (Elt F) ℓ) (ρ : Dev nD → PrngReg)

/-- A window's one block starts at the array's start, -/
theorem start_x : (fun a => win0_0.index t0_0 a * main_arg0.ty.shape.size a) = fun _ => 0 := funext fun a => by fin_cases a <;> decide
theorem start_w : (fun a => win0_1.index t0_0 a * main_arg1.ty.shape.size a) = fun _ => 0 := funext fun a => by fin_cases a <;> decide
theorem start_o : (fun a => win0_2.index t0_0 a * main_v1.ty.shape.size a) = fun _ => 0 := funext fun a => by fin_cases a <;> decide
/-- so that it is the whole array. -/
theorem Xof_eq (c : Dev nD) : Xof m c = m ((c : Thread nD τ).loc main_arg0) :=
  (Memref.read_access_unit_zero (Elt F) main_arg0 start_x (fun a => by fin_cases a <;> decide) (m ((c : Thread nD τ).loc main_arg0)) :)
theorem Wof_eq (c : Dev nD) : Wof m c = m ((c : Thread nD τ).loc main_arg1) :=
  (Memref.read_access_unit_zero (Elt F) main_arg1 start_w (fun a => by fin_cases a <;> decide) (m ((c : Thread nD τ).loc main_arg1)) :)

/-- The result array ends as the one point left its block, the whole array. -/
theorem finalA_o (c : Dev nD) : finalA m ρ c (2 : Fin 3) = target (Xof m) (Wof m) c := by
  have h : (win0_2.blk t0_0).view.read (Elt F) (finalA m ρ c (2 : Fin 3)) = target (Xof m) (Wof m) c := by
    unfold finalA
    rw [show cfg0.N = (t0_0 : Fin cfg0.N).val + 1 from rfl, (dats m ρ 0 c).arrAt_succ (2 : Fin 3) t0_0, if_pos (flush0_2 t0_0)]
    exact View.read_write_univ _ _
  exact (Memref.read_access_unit_zero (Elt F) main_v1 start_o (fun a => by fin_cases a <;> decide) _).symm.trans h

end Arrays

/-! ## The claim -/

/-- From blocks of the same whole arrays, every device ends with the one result the reference ends with. -/
theorem value : Cert.algebraic_KernelIdeal_ReferenceIdeal := by
  intro m ρ m' ρ' _ hag
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run defs _ _).mono (fun _ h c => ⟨(h.1 c (2 : Fin 3)).trans ((finalA_o m ρ c).trans (target_eq _ _ _ _ ?_ ?_ c)),
      (h.1 c (0 : Fin 3)).trans (finalA_x m ρ c), (h.1 c (1 : Fin 3)).trans (finalA_w m ρ c)⟩) (run_main (F := Ideal) m ρ)
    · intro d r k
      rw [Xof_eq, (hag d).1, Layout.block_apply]
      exact congrArg (m' _) (funext fun a => by match a with | 0 => rfl | 1 => rfl)
    · intro d k l
      rw [Wof_eq, (hag d).2, Layout.block_apply]
      exact congrArg (m' _) (funext fun a => by match a with | 0 => rfl | 1 => rfl)
  · exact (θ_run Cert.ReferenceIdeal.defs _ _).mono (fun _ h => h 0) (Cert.ReferenceIdeal.Value.run (F := Ideal) m' ρ')

end Cert.KernelIdeal.Ring

end
-- ==== Proof.lean ====
/-
# The claims

The kernel's run (Proof/Launch.lean) is proved once for any float values. At the printed ones it gives the
kernel's frame, and at the ideal ones the idealized kernel's; the reference's run is that of its straight line
of operations (Proof/Frames.lean). Over the reals the contents that the run leaves are the reference's result
(Proof/Total.lean, Proof/Equal.lean).
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- All five claims, with the side conditions that the programs state. -/
theorem claim : Cert.Claim :=
  ⟨Cert.Kernel.Gen.facts, Cert.KernelIdeal.Gen.facts, Cert.ReferenceIdeal.Gen.facts,
    frame_kernel, frame_kernelIdeal, frame_referenceIdeal, trivial, Cert.KernelIdeal.Ring.value⟩

end Cert.Proof

end
